-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_neighbours [hPre_distinct_neighbours : Cert.Pre_distinct_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_neighbours [hPre_distinct_neighbours : Cert.Pre_distinct_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distinct_neighbours [hKernelIdeal : Cert.KernelIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distinct_neighbours [hReferenceIdeal : Cert.ReferenceIdeal.Facts] [hPre_distinct_neighbours : Cert.Pre_distinct_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_distinct_neighbours [hKernelIdeal : Cert.KernelIdeal.Facts] [hReferenceIdeal : Cert.ReferenceIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distinct_neighbours : Cert.Pre_distinct_neighbours.Facts),
    quiescent_Kernel (hKernel := hKernel)
    ∧ quiescent_KernelIdeal (hKernelIdeal := hKernelIdeal)
    ∧ quiescent_KernelIdeal_pre_distinct_neighbours (hKernelIdeal := hKernelIdeal) (hPre_distinct_neighbours := hPre_distinct_neighbours)
    ∧ quiescent_ReferenceIdeal (hReferenceIdeal := hReferenceIdeal)
    ∧ quiescent_ReferenceIdeal_pre_distinct_neighbours (hReferenceIdeal := hReferenceIdeal) (hPre_distinct_neighbours := hPre_distinct_neighbours)
    ∧ preserves_Kernel_KernelIdeal
    ∧ algebraic_KernelIdeal_ReferenceIdeal_pre_distinct_neighbours (hKernelIdeal := hKernelIdeal) (hReferenceIdeal := hReferenceIdeal) (hPre_distinct_neighbours := hPre_distinct_neighbours)
-- ==== Pre_distinct_neighbours.lean ====
abbrev S4x4x2048x3 : Shape := ⟨4, ![4, 4, 2048, 3]⟩
abbrev S16x2048x3 : Shape := ⟨3, ![16, 2048, 3]⟩
abbrev S16x2048x2048 : Shape := ⟨3, ![16, 2048, 2048]⟩
abbrev S_ : Shape := ⟨0, ![]⟩
abbrev S16x2048 : Shape := ⟨2, ![16, 2048]⟩
abbrev S16x2048x11 : Shape := ⟨3, ![16, 2048, 11]⟩
abbrev S16x2048x6 : Shape := ⟨3, ![16, 2048, 6]⟩
abbrev S16x2048x10 : Shape := ⟨3, ![16, 2048, 10]⟩
abbrev S16x2048x5 : Shape := ⟨3, ![16, 2048, 5]⟩

class Facts : Prop where
  shapeCasts_S4x4x2048x3_S16x2048x3 : S4x4x2048x3.ShapeCasts S16x2048x3
  reducesTo_S16x2048x3_S16x2048_d2 : S16x2048x3.ReducesTo [2] S16x2048
  h_S_ : 0 < S_.numel
  bcast_S_S16x2048x2048 : S_.BroadcastsInDim S16x2048x2048 (![] : Fin 0 → Fin S16x2048x2048.rank)
  bcast_S16x2048_S16x2048x2048_0_1 : S16x2048.BroadcastsInDim S16x2048x2048 (![0, 1] : Fin 2 → Fin S16x2048x2048.rank)
  bcast_S16x2048_S16x2048x2048_0_2 : S16x2048.BroadcastsInDim S16x2048x2048 (![0, 2] : Fin 2 → Fin S16x2048x2048.rank)
  sliceFits_S16x2048x2048_S16x2048x11 : S16x2048x2048.Slices (fun _ => 0) S16x2048x11
  sliceFits_S16x2048x2048_S16x2048x6 : S16x2048x2048.Slices (fun _ => 0) S16x2048x6
  slices_S16x2048x11_S16x2048x10_0_0_0 : S16x2048x11.Slices ![0, 0, 0] S16x2048x10
  slices_S16x2048x11_S16x2048x10_0_0_1 : S16x2048x11.Slices ![0, 0, 1] S16x2048x10
  slices_S16x2048x6_S16x2048x5_0_0_0 : S16x2048x6.Slices ![0, 0, 0] S16x2048x5
  slices_S16x2048x6_S16x2048x5_0_0_1 : S16x2048x6.Slices ![0, 0, 1] S16x2048x5
  dot_S16x2048x3_S16x2048x3_S16x2048x2048_2_2_1_1_0_0_wf : DotDims.WF S16x2048x3 S16x2048x3 S16x2048x2048 [2] [2] [1] [1] [0] [0]

variable [Facts]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf
def fn_part2 {F : FTy → Type} [FloatOps F] (main_values : FVec F S16x2048x11 .f32) (main_values_5 : FVec F S16x2048x11 .f32) (main_v30 : FVec F S16x2048 .f32) (main_v32 : FVec F S16x2048 .f32) (main_v34 : FVec F S16x2048x2048 .f32) : IVec S16x2048x10 1 × IVec S16x2048x10 1 × IVec S16x2048x5 1 :=
  let main_v35 : FVec F S16x2048x2048 .f32 := broadcastInDim S16x2048x2048 ![0, 1] bcast_S16x2048_S16x2048x2048_0_1 main_v30
  let main_v36 : FVec F S16x2048x2048 .f32 := addf main_v34 main_v35
  let main_v37 : FVec F S16x2048x2048 .f32 := broadcastInDim S16x2048x2048 ![0, 2] bcast_S16x2048_S16x2048x2048_0_2 main_v32
  let main_v38 : FVec F S16x2048x2048 .f32 := addf main_v36 main_v37
  let main_v39 : FVec F S16x2048x2048 .f32 := Host.negf main_v38
  let main_values_10 : FVec F S16x2048x6 .f32 := (fun x => (Host.topK S16x2048x6 2 (FloatOps.cmpfTotal .gt) x sliceFits_S16x2048x2048_S16x2048x6).1) main_v39
  let main_indices_11 : IVec S16x2048x6 32 := (fun x => (Host.topK S16x2048x6 2 (FloatOps.cmpfTotal .gt) x sliceFits_S16x2048x2048_S16x2048x6).2) main_v39
  let main_v40 : FVec F S16x2048x10 .f32 := (extractStridedSlice S16x2048x10 ![0, 0, 0] · slices_S16x2048x11_S16x2048x10_0_0_0) main_values
  let main_v41 : FVec F S16x2048x10 .f32 := (extractStridedSlice S16x2048x10 ![0, 0, 1] · slices_S16x2048x11_S16x2048x10_0_0_1) main_values
  let main_v42 : IVec S16x2048x10 1 := cmpf .ogt main_v40 main_v41
  let main_v43 : FVec F S16x2048x10 .f32 := (extractStridedSlice S16x2048x10 ![0, 0, 0] · slices_S16x2048x11_S16x2048x10_0_0_0) main_values_5
  let main_v44 : FVec F S16x2048x10 .f32 := (extractStridedSlice S16x2048x10 ![0, 0, 1] · slices_S16x2048x11_S16x2048x10_0_0_1) main_values_5
  let main_v45 : IVec S16x2048x10 1 := cmpf .ogt main_v43 main_v44
  let main_v46 : FVec F S16x2048x5 .f32 := (extractStridedSlice S16x2048x5 ![0, 0, 0] · slices_S16x2048x6_S16x2048x5_0_0_0) main_values_10
  let main_v47 : FVec F S16x2048x5 .f32 := (extractStridedSlice S16x2048x5 ![0, 0, 1] · slices_S16x2048x6_S16x2048x5_0_0_1) main_values_10
  let main_v48 : IVec S16x2048x5 1 := cmpf .ogt main_v46 main_v47
  (main_v42, main_v45, main_v48)

def fn_part1 {F : FTy → Type} [FloatOps F] (main_v1 : FVec F S16x2048x3 .f32) (main_v3 : FVec F S16x2048x3 .f32) (main_values : FVec F S16x2048x11 .f32) (main_v16 : FVec F S16x2048x2048 .f32) (main_v17 : FVec F S16x2048x3 .f32) (main_cst_2 : FVec F S_ .f32) : IVec S16x2048x10 1 × IVec S16x2048x10 1 × IVec S16x2048x5 1 :=
  let main_v18 : FVec F S16x2048 .f32 := (fun x v => Host.reduceAdd x v reducesTo_S16x2048x3_S16x2048_d2 h_S_) main_v17 main_cst_2
  let main_v19 : FVec F S16x2048x3 .f32 := mulf main_v1 main_v1
  let main_cst_3 : FVec F S_ .f32 := constant S_ .f32 0x00000000#32
  let main_v20 : FVec F S16x2048 .f32 := (fun x v => Host.reduceAdd x v reducesTo_S16x2048x3_S16x2048_d2 h_S_) main_v19 main_cst_3
  let main_cst_4 : FVec F S_ .f32 := constant S_ .f32 0xC0000000#32
  let main_v21 : FVec F S16x2048x2048 .f32 := broadcastInDim S16x2048x2048 ![] bcast_S_S16x2048x2048 main_cst_4
  let main_v22 : FVec F S16x2048x2048 .f32 := mulf main_v21 main_v16
  let main_v23 : FVec F S16x2048x2048 .f32 := broadcastInDim S16x2048x2048 ![0, 1] bcast_S16x2048_S16x2048x2048_0_1 main_v18
  let main_v24 : FVec F S16x2048x2048 .f32 := addf main_v22 main_v23
  let main_v25 : FVec F S16x2048x2048 .f32 := broadcastInDim S16x2048x2048 ![0, 2] bcast_S16x2048_S16x2048x2048_0_2 main_v20
  let main_v26 : FVec F S16x2048x2048 .f32 := addf main_v24 main_v25
  let main_v27 : FVec F S16x2048x2048 .f32 := Host.negf main_v26
  let main_values_5 : FVec F S16x2048x11 .f32 := (fun x => (Host.topK S16x2048x11 2 (FloatOps.cmpfTotal .gt) x sliceFits_S16x2048x2048_S16x2048x11).1) main_v27
  let main_indices_6 : IVec S16x2048x11 32 := (fun x => (Host.topK S16x2048x11 2 (FloatOps.cmpfTotal .gt) x sliceFits_S16x2048x2048_S16x2048x11).2) main_v27
  let main_v28 : FVec F S16x2048x2048 .f32 := (fun l r => Host.dotGeneral dot_S16x2048x3_S16x2048x3_S16x2048x2048_2_2_1_1_0_0 none l r) main_v3 main_v1
  let main_v29 : FVec F S16x2048x3 .f32 := mulf main_v3 main_v3
  let main_cst_7 : FVec F S_ .f32 := constant S_ .f32 0x00000000#32
  let main_v30 : FVec F S16x2048 .f32 := (fun x v => Host.reduceAdd x v reducesTo_S16x2048x3_S16x2048_d2 h_S_) main_v29 main_cst_7
  let main_v31 : FVec F S16x2048x3 .f32 := mulf main_v1 main_v1
  let main_cst_8 : FVec F S_ .f32 := constant S_ .f32 0x00000000#32
  let main_v32 : FVec F S16x2048 .f32 := (fun x v => Host.reduceAdd x v reducesTo_S16x2048x3_S16x2048_d2 h_S_) main_v31 main_cst_8
  let main_cst_9 : FVec F S_ .f32 := constant S_ .f32 0xC0000000#32
  let main_v33 : FVec F S16x2048x2048 .f32 := broadcastInDim S16x2048x2048 ![] bcast_S_S16x2048x2048 main_cst_9
  let main_v34 : FVec F S16x2048x2048 .f32 := mulf main_v33 main_v28
  fn_part2 (F := F) main_values main_values_5 main_v30 main_v32 main_v34

def fn {F : FTy → Type} [FloatOps F] (main_arg0 : FVec F S4x4x2048x3 .f32) (main_arg1 : FVec F S4x4x2048x3 .f32) (main_arg2 : FVec F S4x4x2048x3 .f32) : IVec S16x2048x10 1 × IVec S16x2048x10 1 × IVec S16x2048x5 1 :=
  let main_v0 : FVec F S16x2048x3 .f32 := shapeCast S16x2048x3 main_arg0 shapeCasts_S4x4x2048x3_S16x2048x3
  let main_v1 : FVec F S16x2048x3 .f32 := shapeCast S16x2048x3 main_arg1 shapeCasts_S4x4x2048x3_S16x2048x3
  let main_v2 : FVec F S4x4x2048x3 .f32 := addf main_arg0 main_arg2
  let main_v3 : FVec F S16x2048x3 .f32 := shapeCast S16x2048x3 main_v2 shapeCasts_S4x4x2048x3_S16x2048x3
  let main_v4 : FVec F S16x2048x2048 .f32 := (fun l r => Host.dotGeneral dot_S16x2048x3_S16x2048x3_S16x2048x2048_2_2_1_1_0_0 none l r) main_v0 main_v0
  let main_v5 : FVec F S16x2048x3 .f32 := mulf main_v0 main_v0
  let main_cst : FVec F S_ .f32 := constant S_ .f32 0x00000000#32
  let main_v6 : FVec F S16x2048 .f32 := (fun x v => Host.reduceAdd x v reducesTo_S16x2048x3_S16x2048_d2 h_S_) main_v5 main_cst
  let main_v7 : FVec F S16x2048x3 .f32 := mulf main_v0 main_v0
  let main_cst_0 : FVec F S_ .f32 := constant S_ .f32 0x00000000#32
  let main_v8 : FVec F S16x2048 .f32 := (fun x v => Host.reduceAdd x v reducesTo_S16x2048x3_S16x2048_d2 h_S_) main_v7 main_cst_0
  let main_cst_1 : FVec F S_ .f32 := constant S_ .f32 0xC0000000#32
  let main_v9 : FVec F S16x2048x2048 .f32 := broadcastInDim S16x2048x2048 ![] bcast_S_S16x2048x2048 main_cst_1
  let main_v10 : FVec F S16x2048x2048 .f32 := mulf main_v9 main_v4
  let main_v11 : FVec F S16x2048x2048 .f32 := broadcastInDim S16x2048x2048 ![0, 1] bcast_S16x2048_S16x2048x2048_0_1 main_v6
  let main_v12 : FVec F S16x2048x2048 .f32 := addf main_v10 main_v11
  let main_v13 : FVec F S16x2048x2048 .f32 := broadcastInDim S16x2048x2048 ![0, 2] bcast_S16x2048_S16x2048x2048_0_2 main_v8
  let main_v14 : FVec F S16x2048x2048 .f32 := addf main_v12 main_v13
  let main_v15 : FVec F S16x2048x2048 .f32 := Host.negf main_v14
  let main_values : FVec F S16x2048x11 .f32 := (fun x => (Host.topK S16x2048x11 2 (FloatOps.cmpfTotal .gt) x sliceFits_S16x2048x2048_S16x2048x11).1) main_v15
  let main_indices : IVec S16x2048x11 32 := (fun x => (Host.topK S16x2048x11 2 (FloatOps.cmpfTotal .gt) x sliceFits_S16x2048x2048_S16x2048x11).2) main_v15
  let main_v16 : FVec F S16x2048x2048 .f32 := (fun l r => Host.dotGeneral dot_S16x2048x3_S16x2048x3_S16x2048x2048_2_2_1_1_0_0 none l r) main_v1 main_v1
  let main_v17 : FVec F S16x2048x3 .f32 := mulf main_v1 main_v1
  let main_cst_2 : FVec F S_ .f32 := constant S_ .f32 0x00000000#32
  fn_part1 (F := F) main_v1 main_v3 main_values main_v16 main_v17 main_cst_2
-- ==== Kernel.lean ====
abbrev S4x4x2048x3 : Shape := ⟨4, ![4, 4, 2048, 3]⟩
abbrev S4 : Shape := ⟨1, ![4]⟩
abbrev S16x2048x3 : Shape := ⟨3, ![16, 2048, 3]⟩
abbrev S16x3x2048 : Shape := ⟨3, ![16, 3, 2048]⟩
abbrev S16x1x1 : Shape := ⟨3, ![16, 1, 1]⟩
abbrev S4x4 : Shape := ⟨2, ![4, 4]⟩
abbrev S16 : Shape := ⟨1, ![16]⟩
abbrev S_ : Shape := ⟨0, ![]⟩
abbrev S1x256x3 : Shape := ⟨3, ![1, 256, 3]⟩
abbrev S1x3x2048 : Shape := ⟨3, ![1, 3, 2048]⟩
abbrev S256x3 : Shape := ⟨2, ![256, 3]⟩
abbrev S3x2048 : Shape := ⟨2, ![3, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S1x1x1 : Shape := ⟨3, ![1, 1, 1]⟩
abbrev S1x256x2048 : Shape := ⟨3, ![1, 256, 2048]⟩
abbrev S1 : Shape := ⟨1, ![1]⟩
abbrev S1x256x1 : Shape := ⟨3, ![1, 256, 1]⟩
abbrev S1x1x2048 : Shape := ⟨3, ![1, 1, 2048]⟩

abbrev nBuf : Space → Nat
  | .hbm => 22
  | .vmem => 21
  | .smem => 0
  | _ => 0

abbrev bufTy : (tb : Table) → Fin (tcTables nBuf tb) → BufTy
  | .hbm, ⟨0, _⟩ => ⟨S4x4x2048x3, .f32⟩
  | .hbm, ⟨1, _⟩ => ⟨S4x4x2048x3, .f32⟩
  | .hbm, ⟨2, _⟩ => ⟨S4x4x2048x3, .f32⟩
  | .hbm, ⟨3, _⟩ => ⟨S4, .f32⟩
  | .hbm, ⟨4, _⟩ => ⟨S16x2048x3, .f32⟩
  | .hbm, ⟨5, _⟩ => ⟨S16x2048x3, .f32⟩
  | .hbm, ⟨6, _⟩ => ⟨S16x2048x3, .f32⟩
  | .hbm, ⟨7, _⟩ => ⟨S16x3x2048, .f32⟩
  | .hbm, ⟨8, _⟩ => ⟨S16x3x2048, .f32⟩
  | .hbm, ⟨9, _⟩ => ⟨S16x3x2048, .f32⟩
  | .hbm, ⟨10, _⟩ => ⟨S16x2048x3, .f32⟩
  | .hbm, ⟨11, _⟩ => ⟨S16x3x2048, .f32⟩
  | .hbm, ⟨12, _⟩ => ⟨S16x1x1, .f32⟩
  | .hbm, ⟨13, _⟩ => ⟨S4x4, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x3, .f32⟩
  | .local _ .vmem, ⟨5, _⟩ => ⟨S1x256x3, .f32⟩
  | .local _ .vmem, ⟨6, _⟩ => ⟨S1x256x3, .f32⟩
  | .local _ .vmem, ⟨7, _⟩ => ⟨S1x256x3, .f32⟩
  | .local _ .vmem, ⟨8, _⟩ => ⟨S1x256x3, .f32⟩
  | .local _ .vmem, ⟨9, _⟩ => ⟨S1x256x3, .f32⟩
  | .local _ .vmem, ⟨10, _⟩ => ⟨S1x3x2048, .f32⟩
  | .local _ .vmem, ⟨11, _⟩ => ⟨S1x3x2048, .f32⟩
  | .local _ .vmem, ⟨12, _⟩ => ⟨S1x3x2048, .f32⟩
  | .local _ .vmem, ⟨13, _⟩ => ⟨S1x3x2048, .f32⟩
  | .local _ .vmem, ⟨14, _⟩ => ⟨S1x3x2048, .f32⟩
  | .local _ .vmem, ⟨15, _⟩ => ⟨S1x3x2048, .f32⟩
  | .local _ .vmem, ⟨16, _⟩ => ⟨S1x3x2048, .f32⟩
  | .local _ .vmem, ⟨17, _⟩ => ⟨S1x3x2048, .f32⟩
  | .local _ .vmem, ⟨18, _⟩ => ⟨S1x1x1, .f32⟩
  | .local _ .vmem, ⟨19, _⟩ => ⟨S1x1x1, .f32⟩
  | .local _ .vmem, ⟨20, _⟩ => ⟨S1x2048, .f32⟩
  | _, _ => ⟨S4x4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_cst_0 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_cst_1 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x3x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x3x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S4x4x2048x3 : Shape := ⟨4, ![4, 4, 2048, 3]⟩
abbrev S16x2048x3 : Shape := ⟨3, ![16, 2048, 3]⟩
abbrev S16x3x2048 : Shape := ⟨3, ![16, 3, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x10 : Shape := ⟨3, ![16, 2048, 10]⟩
abbrev S16x2048x10x1 : Shape := ⟨4, ![16, 2048, 10, 1]⟩
abbrev S16x2048x10x3 : Shape := ⟨4, ![16, 2048, 10, 3]⟩
abbrev S16x2048x1x3 : Shape := ⟨4, ![16, 2048, 1, 3]⟩
abbrev S16x2048x5 : Shape := ⟨3, ![16, 2048, 5]⟩
abbrev S16x2048x5x1 : Shape := ⟨4, ![16, 2048, 5, 1]⟩
abbrev S16x2048x5x3 : Shape := ⟨4, ![16, 2048, 5, 3]⟩
abbrev S16 : Shape := ⟨1, ![16]⟩
abbrev S16x2048x9 : Shape := ⟨3, ![16, 2048, 9]⟩
abbrev S16x2048x9x1 : Shape := ⟨4, ![16, 2048, 9, 1]⟩
abbrev S16x2048x9x3 : Shape := ⟨4, ![16, 2048, 9, 3]⟩
abbrev S4x4 : Shape := ⟨2, ![4, 4]⟩
abbrev S4 : Shape := ⟨1, ![4]⟩
abbrev S1 : Shape := ⟨1, ![1]⟩

abbrev nBuf : Space → Nat
  | .hbm => 292
  | .vmem => 0
  | .smem => 0
  | _ => 0

abbrev hbmTy0_0 (i : Nat) : BufTy := match i % 128 with
  | 0 => ⟨S4x4x2048x3, .f32⟩
  | 1 => ⟨S4x4x2048x3, .f32⟩
  | 2 => ⟨S4x4x2048x3, .f32⟩
  | 3 => ⟨S16x2048x3, .f32⟩
  | 4 => ⟨S16x2048x3, .f32⟩
  | 5 => ⟨S16x2048x3, .f32⟩
  | 6 => ⟨S16x2048x3, .f32⟩
  | 7 => ⟨S16x3x2048, .f32⟩
  | 8 => ⟨S16x2048x2048, .f32⟩
  | 9 => ⟨S_, .f32⟩
  | 10 => ⟨S16x2048x2048, .f32⟩
  | 11 => ⟨S16x2048x2048, .f32⟩
  | 12 => ⟨S16x2048x3, .f32⟩
  | 13 => ⟨S_, .f32⟩
  | 14 => ⟨S16x2048, .f32⟩
  | 15 => ⟨S16x2048x1, .f32⟩
  | 16 => ⟨S16x2048x2048, .f32⟩
  | 17 => ⟨S16x2048x2048, .f32⟩
  | 18 => ⟨S16x2048x3, .f32⟩
  | 19 => ⟨S_, .f32⟩
  | 20 => ⟨S16x2048, .f32⟩
  | 21 => ⟨S16x1x2048, .f32⟩
  | 22 => ⟨S16x2048x2048, .f32⟩
  | 23 => ⟨S16x2048x2048, .f32⟩
  | 24 => ⟨S16x2048x2048, .f32⟩
  | 25 => ⟨S16x2048x10, .f32⟩
  | 26 => ⟨S16x2048x10, .i32⟩
  | 27 => ⟨S16x2048x10, .f32⟩
  | 28 => ⟨S_, .i32⟩
  | 29 => ⟨S16x2048x10, .i32⟩
  | 30 => ⟨S16x2048x10, .i1⟩
  | 31 => ⟨S_, .i32⟩
  | 32 => ⟨S16x2048x10, .i32⟩
  | 33 => ⟨S16x2048x10, .i32⟩
  | 34 => ⟨S16x2048x10, .i32⟩
  | 35 => ⟨S16x2048x10x1, .i32⟩
  | 36 => ⟨S16x2048x10x3, .f32⟩
  | 37 => ⟨S16x2048x1x3, .f32⟩
  | 38 => ⟨S16x2048x10x3, .f32⟩
  | 39 => ⟨S16x2048x10x3, .f32⟩
  | 40 => ⟨S_, .f32⟩
  | 41 => ⟨S16x2048x3, .f32⟩
  | 42 => ⟨S_, .f32⟩
  | 43 => ⟨S16x2048x3, .f32⟩
  | 44 => ⟨S16x2048x3, .f32⟩
  | 45 => ⟨S16x3x2048, .f32⟩
  | 46 => ⟨S16x2048x2048, .f32⟩
  | 47 => ⟨S_, .f32⟩
  | 48 => ⟨S16x2048x2048, .f32⟩
  | 49 => ⟨S16x2048x2048, .f32⟩
  | 50 => ⟨S16x2048x3, .f32⟩
  | 51 => ⟨S_, .f32⟩
  | 52 => ⟨S16x2048, .f32⟩
  | 53 => ⟨S16x2048x1, .f32⟩
  | 54 => ⟨S16x2048x2048, .f32⟩
  | 55 => ⟨S16x2048x2048, .f32⟩
  | 56 => ⟨S16x2048x3, .f32⟩
  | 57 => ⟨S_, .f32⟩
  | 58 => ⟨S16x2048, .f32⟩
  | 59 => ⟨S16x1x2048, .f32⟩
  | 60 => ⟨S16x2048x2048, .f32⟩
  | 61 => ⟨S16x2048x2048, .f32⟩
  | 62 => ⟨S16x2048x2048, .f32⟩
  | 63 => ⟨S16x2048x10, .f32⟩
  | 64 => ⟨S16x2048x10, .i32⟩
  | 65 => ⟨S16x2048x10, .f32⟩
  | 66 => ⟨S_, .i32⟩
  | 67 => ⟨S16x2048x10, .i32⟩
  | 68 => ⟨S16x2048x10, .i1⟩
  | 69 => ⟨S_, .i32⟩
  | 70 => ⟨S16x2048x10, .i32⟩
  | 71 => ⟨S16x2048x10, .i32⟩
  | 72 => ⟨S16x2048x10, .i32⟩
  | 73 => ⟨S16x2048x10x1, .i32⟩
  | 74 => ⟨S16x2048x10x3, .f32⟩
  | 75 => ⟨S16x2048x1x3, .f32⟩
  | 76 => ⟨S16x2048x10x3, .f32⟩
  | 77 => ⟨S16x2048x10x3, .f32⟩
  | 78 => ⟨S_, .f32⟩
  | 79 => ⟨S16x2048x3, .f32⟩
  | 80 => ⟨S_, .f32⟩
  | 81 => ⟨S16x2048x3, .f32⟩
  | 82 => ⟨S16x2048x3, .f32⟩
  | 83 => ⟨S16x3x2048, .f32⟩
  | 84 => ⟨S16x2048x2048, .f32⟩
  | 85 => ⟨S_, .f32⟩
  | 86 => ⟨S16x2048x2048, .f32⟩
  | 87 => ⟨S16x2048x2048, .f32⟩
  | 88 => ⟨S16x2048x3, .f32⟩
  | 89 => ⟨S_, .f32⟩
  | 90 => ⟨S16x2048, .f32⟩
  | 91 => ⟨S16x2048x1, .f32⟩
  | 92 => ⟨S16x2048x2048, .f32⟩
  | 93 => ⟨S16x2048x2048, .f32⟩
  | 94 => ⟨S16x2048x3, .f32⟩
  | 95 => ⟨S_, .f32⟩
  | 96 => ⟨S16x2048, .f32⟩
  | 97 => ⟨S16x1x2048, .f32⟩
  | 98 => ⟨S16x2048x2048, .f32⟩
  | 99 => ⟨S16x2048x2048, .f32⟩
  | 100 => ⟨S16x2048x2048, .f32⟩
  | 101 => ⟨S16x2048x5, .f32⟩
  | 102 => ⟨S16x2048x5, .i32⟩
  | 103 => ⟨S16x2048x5, .f32⟩
  | 104 => ⟨S_, .f32⟩
  | 105 => ⟨S16x2048x5, .f32⟩
  | 106 => ⟨S16x2048x5, .f32⟩
  | 107 => ⟨S_, .f32⟩
  | 108 => ⟨S16x2048x5, .f32⟩
  | 109 => ⟨S16x2048x5, .f32⟩
  | 110 => ⟨S_, .f32⟩
  | 111 => ⟨S16x2048, .f32⟩
  | 112 => ⟨S16x2048x1, .f32⟩
  | 113 => ⟨S_, .f32⟩
  | 114 => ⟨S16x2048x5, .f32⟩
  | 115 => ⟨S16x2048x5, .f32⟩
  | 116 => ⟨S_, .f32⟩
  | 117 => ⟨S16x2048x5, .f32⟩
  | 118 => ⟨S16x2048x5, .f32⟩
  | 119 => ⟨S16x2048x5, .f32⟩
  | 120 => ⟨S16x2048x5, .f32⟩
  | 121 => ⟨S16x2048x5x1, .f32⟩
  | 122 => ⟨S_, .i32⟩
  | 123 => ⟨S16x2048x5, .i32⟩
  | 124 => ⟨S16x2048x5, .i1⟩
  | 125 => ⟨S_, .i32⟩
  | 126 => ⟨S16x2048x5, .i32⟩
  | 127 => ⟨S16x2048x5, .i32⟩
  | _ => ⟨S4x4x2048x3, .f32⟩

abbrev hbmTy0_1 (i : Nat) : BufTy := match i % 128 with
  | 0 => ⟨S16x2048x5, .i32⟩
  | 1 => ⟨S16x2048x5x1, .i32⟩
  | 2 => ⟨S16x2048x5x3, .f32⟩
  | 3 => ⟨S16x2048x5x3, .f32⟩
  | 4 => ⟨S16x2048x5x3, .f32⟩
  | 5 => ⟨S_, .f32⟩
  | 6 => ⟨S16x2048x3, .f32⟩
  | 7 => ⟨S16x2048x3, .f32⟩
  | 8 => ⟨S16x2048x3, .f32⟩
  | 9 => ⟨S_, .f32⟩
  | 10 => ⟨S16x2048, .f32⟩
  | 11 => ⟨S_, .f32⟩
  | 12 => ⟨S16, .f32⟩
  | 13 => ⟨S_, .f32⟩
  | 14 => ⟨S16x2048, .f32⟩
  | 15 => ⟨S_, .f32⟩
  | 16 => ⟨S16, .f32⟩
  | 17 => ⟨S_, .f32⟩
  | 18 => ⟨S16x2048, .f32⟩
  | 19 => ⟨S_, .f32⟩
  | 20 => ⟨S16, .f32⟩
  | 21 => ⟨S16x3x2048, .f32⟩
  | 22 => ⟨S16x2048x2048, .f32⟩
  | 23 => ⟨S_, .f32⟩
  | 24 => ⟨S16x2048x2048, .f32⟩
  | 25 => ⟨S16x2048x2048, .f32⟩
  | 26 => ⟨S16x2048x3, .f32⟩
  | 27 => ⟨S_, .f32⟩
  | 28 => ⟨S16x2048, .f32⟩
  | 29 => ⟨S16x2048x1, .f32⟩
  | 30 => ⟨S16x2048x2048, .f32⟩
  | 31 => ⟨S16x2048x2048, .f32⟩
  | 32 => ⟨S16x2048x3, .f32⟩
  | 33 => ⟨S_, .f32⟩
  | 34 => ⟨S16x2048, .f32⟩
  | 35 => ⟨S16x1x2048, .f32⟩
  | 36 => ⟨S16x2048x2048, .f32⟩
  | 37 => ⟨S16x2048x2048, .f32⟩
  | 38 => ⟨S16x2048x2048, .f32⟩
  | 39 => ⟨S16x2048x9, .f32⟩
  | 40 => ⟨S16x2048x9, .i32⟩
  | 41 => ⟨S16x2048x9, .f32⟩
  | 42 => ⟨S_, .i32⟩
  | 43 => ⟨S16x2048x9, .i32⟩
  | 44 => ⟨S16x2048x9, .i1⟩
  | 45 => ⟨S_, .i32⟩
  | 46 => ⟨S16x2048x9, .i32⟩
  | 47 => ⟨S16x2048x9, .i32⟩
  | 48 => ⟨S16x2048x9, .i32⟩
  | 49 => ⟨S16x2048x9x1, .i32⟩
  | 50 => ⟨S16x2048x9x3, .f32⟩
  | 51 => ⟨S16x2048x1x3, .f32⟩
  | 52 => ⟨S16x2048x9x3, .f32⟩
  | 53 => ⟨S16x2048x9x3, .f32⟩
  | 54 => ⟨S16x2048x9x3, .f32⟩
  | 55 => ⟨S_, .f32⟩
  | 56 => ⟨S16x2048x9, .f32⟩
  | 57 => ⟨S_, .f32⟩
  | 58 => ⟨S16x2048x9, .f32⟩
  | 59 => ⟨S16x2048x9, .f32⟩
  | 60 => ⟨S16x2048x9, .f32⟩
  | 61 => ⟨S_, .f32⟩
  | 62 => ⟨S16x2048, .f32⟩
  | 63 => ⟨S_, .f32⟩
  | 64 => ⟨S16x2048, .f32⟩
  | 65 => ⟨S16x2048, .f32⟩
  | 66 => ⟨S_, .f32⟩
  | 67 => ⟨S16, .f32⟩
  | 68 => ⟨S4x4, .f32⟩
  | 69 => ⟨S_, .f32⟩
  | 70 => ⟨S4, .f32⟩
  | 71 => ⟨S_, .f32⟩
  | 72 => ⟨S4, .f32⟩
  | 73 => ⟨S4, .f32⟩
  | 74 => ⟨S4x4, .f32⟩
  | 75 => ⟨S_, .f32⟩
  | 76 => ⟨S4, .f32⟩
  | 77 => ⟨S_, .f32⟩
  | 78 => ⟨S4, .f32⟩
  | 79 => ⟨S4, .f32⟩
  | 80 => ⟨S4, .f32⟩
  | 81 => ⟨S1, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S_, .f32⟩
  | 89 => ⟨S_, .f32⟩
  | 90 => ⟨S_, .f32⟩
  | 91 => ⟨S_, .f32⟩
  | 92 => ⟨S1, .f32⟩
  | 93 => ⟨S_, .f32⟩
  | 94 => ⟨S_, .f32⟩
  | 95 => ⟨S_, .f32⟩
  | 96 => ⟨S_, .f32⟩
  | 97 => ⟨S1, .f32⟩
  | 98 => ⟨S_, .f32⟩
  | 99 => ⟨S_, .f32⟩
  | 100 => ⟨S_, .f32⟩
  | 101 => ⟨S_, .f32⟩
  | 102 => ⟨S4x4, .f32⟩
  | 103 => ⟨S_, .f32⟩
  | 104 => ⟨S4, .f32⟩
  | 105 => ⟨S_, .f32⟩
  | 106 => ⟨S4, .f32⟩
  | 107 => ⟨S4, .f32⟩
  | 108 => ⟨S1, .f32⟩
  | 109 => ⟨S_, .f32⟩
  | 110 => ⟨S_, .f32⟩
  | 111 => ⟨S_, .f32⟩
  | 112 => ⟨S_, .f32⟩
  | 113 => ⟨S_, .f32⟩
  | 114 => ⟨S1, .f32⟩
  | 115 => ⟨S_, .f32⟩
  | 116 => ⟨S_, .f32⟩
  | 117 => ⟨S_, .f32⟩
  | 118 => ⟨S_, .f32⟩
  | 119 => ⟨S1, .f32⟩
  | 120 => ⟨S_, .f32⟩
  | 121 => ⟨S_, .f32⟩
  | 122 => ⟨S_, .f32⟩
  | 123 => ⟨S_, .f32⟩
  | 124 => ⟨S1, .f32⟩
  | 125 => ⟨S_, .f32⟩
  | 126 => ⟨S_, .f32⟩
  | 127 => ⟨S_, .f32⟩
  | _ => ⟨S4x4x2048x3, .f32⟩

abbrev hbmTy0_2 (i : Nat) : BufTy := match i % 128 with
  | 0 => ⟨S_, .f32⟩
  | 1 => ⟨S4x4, .f32⟩
  | 2 => ⟨S_, .f32⟩
  | 3 => ⟨S4, .f32⟩
  | 4 => ⟨S_, .f32⟩
  | 5 => ⟨S4, .f32⟩
  | 6 => ⟨S4, .f32⟩
  | 7 => ⟨S1, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S_, .f32⟩
  | 15 => ⟨S_, .f32⟩
  | 16 => ⟨S_, .f32⟩
  | 17 => ⟨S_, .f32⟩
  | 18 => ⟨S1, .f32⟩
  | 19 => ⟨S_, .f32⟩
  | 20 => ⟨S_, .f32⟩
  | 21 => ⟨S_, .f32⟩
  | 22 => ⟨S_, .f32⟩
  | 23 => ⟨S1, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S4x4x2048x3, .f32⟩

abbrev hbmTy (i : Nat) : BufTy := match i / 128 with
  | 0 => hbmTy0_0 i
  | 1 => hbmTy0_1 i
  | 2 => hbmTy0_2 i
  | _ => ⟨S4x4x2048x3, .f32⟩

abbrev bufTy : (tb : Table) → Fin (tcTables nBuf tb) → BufTy
  | .hbm, ⟨i, _⟩ => hbmTy i
  | _, _ => ⟨S4x4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_values : Ref sig .tc := ⟨.hbm, 25, rfl⟩
abbrev main_indices : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_values_8 : Ref sig .tc := ⟨.hbm, 63, rfl⟩
abbrev main_indices_9 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_values_17 : Ref sig .tc := ⟨.hbm, 101, rfl⟩
abbrev main_indices_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩
abbrev main_cst_22 : Ref sig .tc := ⟨.hbm, 113, rfl⟩
abbrev main_v84 : Ref sig .tc := ⟨.hbm, 114, rfl⟩
abbrev main_v85 : Ref sig .tc := ⟨.hbm, 115, rfl⟩
abbrev main_cst_23 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_24 : Ref sig .tc := ⟨.hbm, 122, rfl⟩
abbrev main_v91 : Ref sig .tc := ⟨.hbm, 123, rfl⟩
abbrev main_v92 : Ref sig .tc := ⟨.hbm, 124, rfl⟩
abbrev main_c_25 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_26 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_27 : Ref sig .tc := ⟨.hbm, 137, rfl⟩
abbrev main_v103 : Ref sig .tc := ⟨.hbm, 138, rfl⟩
abbrev main_cst_28 : Ref sig .tc := ⟨.hbm, 139, rfl⟩
abbrev main_v104 : Ref sig .tc := ⟨.hbm, 140, rfl⟩
abbrev main_cst_29 : Ref sig .tc := ⟨.hbm, 141, rfl⟩
abbrev main_v105 : Ref sig .tc := ⟨.hbm, 142, rfl⟩
abbrev main_cst_30 : Ref sig .tc := ⟨.hbm, 143, rfl⟩
abbrev main_v106 : Ref sig .tc := ⟨.hbm, 144, rfl⟩
abbrev main_cst_31 : Ref sig .tc := ⟨.hbm, 145, rfl⟩
abbrev main_v107 : Ref sig .tc := ⟨.hbm, 146, rfl⟩
abbrev main_cst_32 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_33 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_34 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_35 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_values_36 : Ref sig .tc := ⟨.hbm, 167, rfl⟩
abbrev main_indices_37 : Ref sig .tc := ⟨.hbm, 168, rfl⟩
abbrev main_v124 : Ref sig .tc := ⟨.hbm, 169, rfl⟩
abbrev main_c_38 : Ref sig .tc := ⟨.hbm, 170, rfl⟩
abbrev main_v125 : Ref sig .tc := ⟨.hbm, 171, rfl⟩
abbrev main_v126 : Ref sig .tc := ⟨.hbm, 172, rfl⟩
abbrev main_c_39 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_40 : Ref sig .tc := ⟨.hbm, 183, rfl⟩
abbrev main_v136 : Ref sig .tc := ⟨.hbm, 184, rfl⟩
abbrev main_cst_41 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_42 : Ref sig .tc := ⟨.hbm, 189, rfl⟩
abbrev main_v140 : Ref sig .tc := ⟨.hbm, 190, rfl⟩
abbrev main_cst_43 : Ref sig .tc := ⟨.hbm, 191, rfl⟩
abbrev main_v141 : Ref sig .tc := ⟨.hbm, 192, rfl⟩
abbrev main_v142 : Ref sig .tc := ⟨.hbm, 193, rfl⟩
abbrev main_cst_44 : Ref sig .tc := ⟨.hbm, 194, rfl⟩
abbrev main_v143 : Ref sig .tc := ⟨.hbm, 195, rfl⟩
abbrev main_v144 : Ref sig .tc := ⟨.hbm, 196, rfl⟩
abbrev main_cst_45 : Ref sig .tc := ⟨.hbm, 197, rfl⟩
abbrev main_v145 : Ref sig .tc := ⟨.hbm, 198, rfl⟩
abbrev main_cst_46 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_47 : Ref sig .tc := ⟨.hbm, 203, rfl⟩
abbrev main_v149 : Ref sig .tc := ⟨.hbm, 204, rfl⟩
abbrev main_cst_48 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_49 : Ref sig .tc := ⟨.hbm, 211, rfl⟩
abbrev main_v155 : Ref sig .tc := ⟨.hbm, 212, rfl⟩
abbrev main_cst_50 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_51 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_52 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_53 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_54 : Ref sig .tc := ⟨.hbm, 231, rfl⟩
abbrev main_v170 : Ref sig .tc := ⟨.hbm, 232, rfl⟩
abbrev main_cst_55 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_56 : Ref sig .tc := ⟨.hbm, 238, rfl⟩
abbrev main_v175 : Ref sig .tc := ⟨.hbm, 239, rfl⟩
abbrev main_cst_57 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_cst_58 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_59 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_60 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_cst_61 : Ref sig .tc := ⟨.hbm, 258, rfl⟩
abbrev main_v190 : Ref sig .tc := ⟨.hbm, 259, rfl⟩
abbrev main_cst_62 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_cst_63 : Ref sig .tc := ⟨.hbm, 265, rfl⟩
abbrev main_v195 : Ref sig .tc := ⟨.hbm, 266, rfl⟩
abbrev main_cst_64 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_cst_65 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_cst_66 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_cst_67 : Ref sig .tc := ⟨.hbm, 281, rfl⟩
abbrev main_v207 : Ref sig .tc := ⟨.hbm, 282, rfl⟩
abbrev main_v208 : Ref sig .tc := ⟨.hbm, 283, rfl⟩
abbrev main_cst_68 : Ref sig .tc := ⟨.hbm, 284, rfl⟩
abbrev main_v209 : Ref sig .tc := ⟨.hbm, 285, rfl⟩
abbrev main_cst_69 : Ref sig .tc := ⟨.hbm, 286, rfl⟩
abbrev main_v210 : Ref sig .tc := ⟨.hbm, 287, rfl⟩
abbrev main_v211 : Ref sig .tc := ⟨.hbm, 288, rfl⟩
abbrev main_cst_70 : Ref sig .tc := ⟨.hbm, 289, rfl⟩
abbrev main_v212 : Ref sig .tc := ⟨.hbm, 290, rfl⟩
abbrev main_v213 : Ref sig .tc := ⟨.hbm, 291, rfl⟩

abbrev nD : Nat := 1
abbrev τ : Topo := Topo.v7x

variable {F : FTy → Type} [FloatOps F]
-- ==== Proof.IdealBodies.lean ====
/-
  The two kernels' bodies run once, on any staging buffers: what each leaves in its output's buffer and in the
  column-minimum scratch, named as a function of the blocks it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.Value
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles: each buffer whole -/

abbrev rRows : Rect S1x256x3 := Rect.unit (s := S1x256x3) ![0, 0, 0] S1x256x3.size inb_S1x256x3_S1x256x3_0_0_0
abbrev rPts : Rect S1x3x2048 := Rect.unit (s := S1x3x2048) ![0, 0, 0] S1x3x2048.size inb_S1x3x2048_S1x3x2048_0_0_0
abbrev rCol : Rect S1x2048 := Rect.unit (s := S1x2048) ![0, 0] S1x2048.size inb_S1x2048_S1x2048_0_0
abbrev rOut : Rect S1x1x1 := Rect.unit (s := S1x1x1) ![0, 0, 0] S1x1x1.size inb_S1x1x1_S1x1x1_0_0_0

/-! ## The curvature kernel -/

/-- What the curvature kernel stores, from its row block `x0` and the cloud `x1`. -/
def curvOf (x0 : Vec F S1x256x3 .f32) (x1 : Vec F S1x3x2048 .f32) : Vec F S1x256x3 .f32 :=
  k0_pay1 (k0_pay2 x0) (k0_pay3 x1) (k0_pay6 (k0_pay4 x0 x1) (k0_pay5 x0 x1)) (k0_pay7 (k0_pay4 x0 x1) (k0_pay5 x0 x1))
    (k0_pay8 (k0_pay3 x1) (k0_pay4 x0 x1) (k0_pay5 x0 x1)) (k0_pay9 (k0_pay2 x0))

theorem rows_cover (p0 : Vec F S1x256x3 .f32) (y : S1x256x3.Idx) :
    ∃ pc ∈ ([⟨rRows, p0⟩] : List (View.Piece (Elt F) S1x256x3 .f32)), y ∈ pc.1.set :=
  View.cover_of_tiled [⟨rRows, p0⟩] S1x256x3.size (by rfl) y
theorem col_cover (p0 : Vec F S1x2048 .f32) (y : S1x2048.Idx) :
    ∃ pc ∈ ([⟨rCol, p0⟩] : List (View.Piece (Elt F) S1x2048 .f32)), y ∈ pc.1.set :=
  View.cover_of_tiled [⟨rCol, p0⟩] S1x2048.size (by rfl) y
theorem out_cover (p0 : Vec F S1x1x1 .f32) (y : S1x1x1.Idx) :
    ∃ pc ∈ ([⟨rOut, p0⟩] : List (View.Piece (Elt F) S1x1x1 .f32)), y ∈ pc.1.set :=
  View.cover_of_tiled [⟨rOut, p0⟩] S1x1x1.size (by rfl) y

theorem ld_rows (x : Vec F S1x256x3 .f32) : View.ld x rRows = x := View.ld_unit_zero (by decide) _ _
theorem ld_pts (x : Vec F S1x3x2048 .f32) : View.ld x rPts = x := View.ld_unit_zero (by decide) _ _
theorem ld_col (x : Vec F S1x2048 .f32) : View.ld x rCol = x := View.ld_unit_zero (by decide) _ _
theorem ld_out (x : Vec F S1x1x1 .f32) : View.ld x rOut = x := View.ld_unit_zero (by decide) _ _

set_option maxHeartbeats 1000000 in
/-- The curvature kernel's body: the two inputs kept, the output at `curvOf` of them. -/
theorem curv_run (c : Dev nD) (E : Set ℕ) (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x3 .f32) (harg4 : arg4.IsWhole)
    (x0 : Vec F S1x256x3 .f32) (x1 : Vec F S1x3x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (curvOf x0 x1)) -∗ K ⟨⟩))
      ⊢ wp frame (wpE (defs₀ (F := F)) Variants.none c none) E (cc0__curv_kernel i arg2 harg2 arg3 harg3 arg4 harg4) K := by
  simp only [cc0__curv_kernel_eq_skeleton]; unfold cc0__curv_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (rows_cover _)).trans ?_
  refine (View.canon_unit_zero (by decide) _ _).trans ?_
  conv_rhs => rw [← ld_rows (View.read _ _ f0), ← ld_pts (View.read _ _ f1)]
  rfl

/-! ## The loss kernel -/

/-- The squared distances of the loss kernel's row block of warped points to the second cloud. -/
def distOf (x0 x1 : Vec F S1x256x3 .f32) (x4 : Vec F S1x3x2048 .f32) : FVec F S256x2048 .f32 :=
  k1_pay19 (k1_pay9 x4) (k1_pay10 x0 x1) (k1_pay18 (k1_pay10 x0 x1))

/-- What the loss kernel stores: the accumulator `y` (ignored at the first row block), the block's own terms, and at the
    last row block the sum of the column minima `z`. -/
def lossOf (r : BitVec 32) (x0 x1 : Vec F S1x256x3 .f32) (x2 x3 x4 x5 : Vec F S1x3x2048 .f32) (y : Vec F S1x1x1 .f32) (z : Vec F S1x2048 .f32) :
    Vec F S1x1x1 .f32 :=
  k1_pay4 r
    (k1_pay17 (k1_pay6 x1) (k1_pay8 x3) (k1_pay12 x0 x2) (k1_pay14 (k1_pay12 x0 x2) (k1_pay13 x0 x2)))
    (k1_pay21 (k1_pay9 x4) (k1_pay10 x0 x1) (k1_pay18 (k1_pay10 x0 x1)))
    (k1_pay26 (k1_pay16 (k1_pay10 x0 x1) (k1_pay11 x2 x3) (k1_pay12 x0 x2) (k1_pay15 (k1_pay12 x0 x2) (k1_pay13 x0 x2)))
      (distOf x0 x1 x4) (k1_pay22 (k1_pay9 x4) (k1_pay10 x0 x1) (k1_pay18 (k1_pay10 x0 x1))) (Scalar.ofBits .f32 0x322BCC77#32) x5)
    (k1_pay27 (k1_pay16 (k1_pay10 x0 x1) (k1_pay11 x2 x3) (k1_pay12 x0 x2) (k1_pay15 (k1_pay12 x0 x2) (k1_pay13 x0 x2)))
      (distOf x0 x1 x4) (k1_pay22 (k1_pay9 x4) (k1_pay10 x0 x1) (k1_pay18 (k1_pay10 x0 x1))) (Scalar.ofBits .f32 0x322BCC77#32) x5)
    y z

/-- At the first row block the accumulator's stale contents are not read into the result. -/
theorem lossOf_first (x0 x1 : Vec F S1x256x3 .f32) (x2 x3 x4 x5 : Vec F S1x3x2048 .f32) (y y' : Vec F S1x1x1 .f32) (z : Vec F S1x2048 .f32) :
    lossOf 0#32 x0 x1 x2 x3 x4 x5 y z = lossOf 0#32 x0 x1 x2 x3 x4 x5 y' z := rfl

abbrev isFirst (i : grid1.Coords) : Prop := (Scalar.cmpi .ne (Scalar.extui (Scalar.cmpi .eq (BitVec.ofNat 32 (i 1).val) 0#32)) 0#32) = 1#1
abbrev isLater (i : grid1.Coords) : Prop := (Scalar.cmpi .ne (Scalar.extui (Scalar.cmpi .sgt (BitVec.ofNat 32 (i 1).val) 0#32)) 0#32) = 1#1

set_option maxHeartbeats 4000000 in
/-- The loss kernel's body at a first row block: the scratch initialised at the block's column minima. -/
theorem loss_run_first (c : Dev nD) (E : Set ℕ) (i : grid1.Coords) (arg2 : Memref sig .tc .vmem S1x256x3 .f32) (harg2 : arg2.IsWhole) (arg3 : Memref sig .tc .vmem S1x256x3 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x3x2048 .f32) (harg6 : arg6.IsWhole) (arg7 : Memref sig .tc .vmem S1x3x2048 .f32) (harg7 : arg7.IsWhole) (arg8 : Memref sig .tc .vmem S1x1x1 .f32) (harg8 : arg8.IsWhole) (arg9 : Memref sig .tc .vmem S1x2048 .f32) (harg9 : arg9.IsWhole)
    (hc0 : isFirst i) (hc1 : ¬isLater i)
    (x0 x1 : Vec F S1x256x3 .f32) (x2 x3 x4 x5 : Vec F S1x3x2048 .f32) (y : Vec F S1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (lossOf (BitVec.ofNat 32 (i 1).val) x0 x1 x2 x3 x4 x5 y (k1_pay2 (distOf x0 x1 x4)))
            ∗ owns (c : Thread nD τ) arg9 fullShare (k1_pay2 (distOf x0 x1 x4))) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  subst hf0 hf1 hf2 hf3 hf4 hf5 hf6
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (View.read_writes_eq_canon _ _ _ (out_cover _)).trans ?_
    refine (View.canon_unit_zero (by decide) _ _).trans ?_
    refine Eq.trans (b := lossOf (BitVec.ofNat 32 (i 1).val) (View.ld (arg2.view.read (Elt F) f0) rRows) (View.ld (arg3.view.read (Elt F) f1) rRows)
      (View.ld (arg4.view.read (Elt F) f2) rPts) (View.ld (arg5.view.read (Elt F) f3) rPts) (View.ld (arg6.view.read (Elt F) f4) rPts)
      (View.ld (arg7.view.read (Elt F) f5) rPts) (View.ld (arg8.view.read (Elt F) f6) rOut)
      (arg9.view.readCov [⟨rCol, k1_pay2 (distOf (View.ld (arg2.view.read (Elt F) f0) rRows) (View.ld (arg3.view.read (Elt F) f1) rRows)
        (View.ld (arg6.view.read (Elt F) f4) rPts))⟩] rCol.toLoadRect)) (by rfl) ?_
    rw [View.readCov_unit_zero _ (by decide)]
    simp only [ld_rows, ld_pts, ld_out]
  iexists _; isplitr
  swap; · iexact HS0
  ipureintro
  refine (View.read_writes_eq_canon _ _ _ (col_cover _)).trans ?_
  refine (View.canon_unit_zero (by decide) _ _).trans ?_
  refine Eq.trans (b := k1_pay2 (distOf (View.ld (arg2.view.read (Elt F) f0) rRows) (View.ld (arg3.view.read (Elt F) f1) rRows)
        (View.ld (arg6.view.read (Elt F) f4) rPts))) (by rfl) ?_
  simp only [ld_rows, ld_pts]

set_option maxHeartbeats 4000000 in
/-- The loss kernel's body at a later row block: the scratch lowered to the block's column minima. -/
theorem loss_run_later (c : Dev nD) (E : Set ℕ) (i : grid1.Coords) (arg2 : Memref sig .tc .vmem S1x256x3 .f32) (harg2 : arg2.IsWhole) (arg3 : Memref sig .tc .vmem S1x256x3 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x3x2048 .f32) (harg6 : arg6.IsWhole) (arg7 : Memref sig .tc .vmem S1x3x2048 .f32) (harg7 : arg7.IsWhole) (arg8 : Memref sig .tc .vmem S1x1x1 .f32) (harg8 : arg8.IsWhole) (arg9 : Memref sig .tc .vmem S1x2048 .f32) (harg9 : arg9.IsWhole)
    (hc0 : ¬isFirst i) (hc1 : isLater i)
    (x0 x1 : Vec F S1x256x3 .f32) (x2 x3 x4 x5 : Vec F S1x3x2048 .f32) (y : Vec F S1x1x1 .f32) (z : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (lossOf (BitVec.ofNat 32 (i 1).val) x0 x1 x2 x3 x4 x5 y (k1_pay3 (distOf x0 x1 x4) z))
            ∗ owns (c : Thread nD τ) arg9 fullShare (k1_pay3 (distOf x0 x1 x4) z)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs, HS0⟩, Hk⟩
  subst hf0 hf1 hf2 hf3 hf4 hf5 hf6 hfs
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (View.read_writes_eq_canon _ _ _ (out_cover _)).trans ?_
    refine (View.canon_unit_zero (by decide) _ _).trans ?_
    refine Eq.trans (b := lossOf (BitVec.ofNat 32 (i 1).val) (View.ld (arg2.view.read (Elt F) f0) rRows) (View.ld (arg3.view.read (Elt F) f1) rRows)
      (View.ld (arg4.view.read (Elt F) f2) rPts) (View.ld (arg5.view.read (Elt F) f3) rPts) (View.ld (arg6.view.read (Elt F) f4) rPts)
      (View.ld (arg7.view.read (Elt F) f5) rPts) (View.ld (arg8.view.read (Elt F) f6) rOut)
      (arg9.view.readCov [⟨rCol, k1_pay3 (distOf (View.ld (arg2.view.read (Elt F) f0) rRows) (View.ld (arg3.view.read (Elt F) f1) rRows)
        (View.ld (arg6.view.read (Elt F) f4) rPts)) (View.ld (arg9.view.read (Elt F) fs0) rCol)⟩] rCol.toLoadRect)) (by rfl) ?_
    rw [View.readCov_unit_zero _ (by decide)]
    simp only [ld_rows, ld_pts, ld_out, ld_col]
  iexists _; isplitr
  swap; · iexact HS0
  ipureintro
  refine (View.read_writes_eq_canon _ _ _ (col_cover _)).trans ?_
  refine (View.canon_unit_zero (by decide) _ _).trans ?_
  refine Eq.trans (b := k1_pay3 (distOf (View.ld (arg2.view.read (Elt F) f0) rRows) (View.ld (arg3.view.read (Elt F) f1) rRows)
        (View.ld (arg6.view.read (Elt F) f4) rPts)) (View.ld (arg9.view.read (Elt F) fs0) rCol)) (by rfl) ?_
  simp only [ld_rows, ld_pts, ld_col]

end Cert.KernelIdeal.Run

end
-- ==== Proof.IdealRegions.lean ====
/-
  The two regions' proof data: per grid point the blocks the body reads, what it leaves in the output blocks, in the
  partial sum and in the column-minimum scratch, and the obligation that the body does so.
-/
module

public import proofs.«01_k».proof.Proof.IdealBodies
public import proofs.«01_k».proof.Proof.Gen.KernelIdeal.Regions
public import Idealize.ShloMosaic.Lib.Pipeline.FrameTail

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The buffers' contents a region is entered from. -/
abbrev Vals : Type := (c : Dev nD) → (b : Ref sig .tc) → Buf (Elt F) ((c : Thread nD τ).loc b)

variable (V : Vals (F := F))

/-! ## Region 0 -/

/-- Window `w`'s block of region 0 at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => curvOf (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = curvOf (blk0 V c 0 t) (blk0 V c 1 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]) t d).trans
    (by unfold Dat.fetched Dat.blockOf blk0; rw [A_eq0]; try rfl)

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (curv_run c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 (F := F) V c) (defs₀ (F := F)) Variants.none () Set.univ := fun t => by
  rw [bigSep_W0, bigSep_W0, row0]
  exact triple_restated (sound_body0 V c t) rfl .rfl fun _ => .rfl

/-! ## Region 1 -/

/-- Window `w`'s block of region 1 at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block's squared distances to the second cloud. -/
abbrev dist1 (c : Dev nD) (t : Fin cfg1.N) : FVec F S256x2048 .f32 := distOf (blk1 V c 0 t) (blk1 V c 1 t) (blk1 V c 4 t)

/-- The column-minimum scratch after point `n`: initialised at the first row block of a cloud, lowered after. -/
def colAt (c : Dev nD) : (n : ℕ) → n < cfg1.N → Vec F S1x2048 .f32
  | 0, hn => k1_pay2 (dist1 V c ⟨0, hn⟩)
  | n + 1, hn => if (n + 1) % 8 = 0 then k1_pay2 (dist1 V c ⟨n + 1, hn⟩)
      else k1_pay3 (dist1 V c ⟨n + 1, hn⟩) (colAt c n (Nat.lt_of_succ_lt hn))

/-- One point's store into the partial sum, over the accumulator `y`. -/
abbrev lossStep (c : Dev nD) (t : Fin cfg1.N) (y : Vec F S1x1x1 .f32) : Vec F S1x1x1 .f32 :=
  lossOf (BitVec.ofNat 32 (t.val % 8)) (blk1 V c 0 t) (blk1 V c 1 t) (blk1 V c 2 t) (blk1 V c 3 t) (blk1 V c 4 t) (blk1 V c 5 t) y (colAt V c t.val t.isLt)

/-- The partial sum after point `n`. -/
def accAt (c : Dev nD) : (n : ℕ) → n < cfg1.N → Vec F S1x1x1 .f32
  | 0, hn => lossStep V c ⟨0, hn⟩ (fun _ => Scalar.ofBits .f32 0x00000000#32)
  | n + 1, hn => lossStep V c ⟨n + 1, hn⟩ (accAt c n (Nat.lt_of_succ_lt hn))

theorem colAt_first (c : Dev nD) (t : Fin cfg1.N) (h : t.val % 8 = 0) : colAt V c t.val t.isLt = k1_pay2 (dist1 V c t) := by
  obtain ⟨n, hn⟩ := t
  cases n with
  | zero => rfl
  | succ n => exact if_pos h
theorem colAt_later (c : Dev nD) (t : Fin cfg1.N) (h : ¬t.val % 8 = 0) :
    colAt V c t.val t.isLt = k1_pay3 (dist1 V c t) (colAt V c (t.val - 1) (Nat.lt_of_le_of_lt (Nat.sub_le _ _) t.isLt)) := by
  obtain ⟨n, hn⟩ := t
  cases n with
  | zero => exact absurd (Nat.zero_mod _) h
  | succ n => exact if_neg h
theorem accAt_first (c : Dev nD) (t : Fin cfg1.N) (h : t.val % 8 = 0) (y : Vec F S1x1x1 .f32) : accAt V c t.val t.isLt = lossStep V c t y := by
  obtain ⟨n, hn⟩ := t
  cases n with
  | zero => unfold accAt lossStep; rw [show (⟨0, hn⟩ : Fin cfg1.N).val % 8 = 0 from rfl]; exact lossOf_first _ _ _ _ _ _ _ _ _
  | succ n => unfold accAt lossStep; rw [h]; exact lossOf_first _ _ _ _ _ _ _ _ _
theorem accAt_later (c : Dev nD) (t : Fin cfg1.N) (h : ¬t.val % 8 = 0) :
    accAt V c t.val t.isLt = lossStep V c t (accAt V c (t.val - 1) (Nat.lt_of_le_of_lt (Nat.sub_le _ _) t.isLt)) := by
  obtain ⟨n, hn⟩ := t
  cases n with
  | zero => exact absurd (Nat.zero_mod _) h
  | succ n => rfl

theorem hFirst : ∀ t : Fin cfg1.N, isFirst (grid1.coords t) ↔ t.val % 8 = 0 :=
  (fun t => by
    have ht : t.val < 128 := Nat.lt_of_lt_of_eq t.isLt N_1
    have e1 : (grid1.coords t 1).val = t.val / 1 % 8 := Pipeline.Grid.coords_val t 1 (by decide) rfl
    simp only [isFirst, e1]
    word_cmp
   : ∀ t : Fin grid1.N, isFirst (grid1.coords t) ↔ t.val % 8 = 0)
theorem hLater : ∀ t : Fin cfg1.N, isLater (grid1.coords t) ↔ 1 ≤ t.val % 8 :=
  (by decide +kernel : ∀ t : Fin grid1.N, isLater (grid1.coords t) ↔ 1 ≤ t.val % 8)
theorem coord1 (t : Fin cfg1.N) : (grid1.coords t 1).val = t.val % 8 := by
  have e1 : (grid1.coords t 1).val = t.val / 1 % 8 := Pipeline.Grid.coords_val t 1 (by decide) rfl
  rw [e1, Nat.div_one]

/-- The column-minimum scratch. -/
abbrev scr : Memref sig .tc .vmem S1x2048 .f32 := Memref.whole cc1_scratch0

/-- The other region's staging buffers, at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem phi_open (c : Dev nD) : (Pipeline.ΦA spec1 c : sProp 𝕄) ⊢ iprop(others c ∗ (∃ d, owns (c : Thread nD τ) scr fullShare d) ∗ (∃ r, prngReg c r)) := by
  unfold Pipeline.ΦA others; rw [scopedRest1_eq]; simp only [scr, owns_whole]
  iintro ⟨⟨H1, H2, H3, H4, H5, H6, H7⟩, Hp⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  iexact Hp

theorem phi_close (c : Dev nD) : iprop(others c ∗ (∃ d, owns (c : Thread nD τ) scr fullShare d) ∗ (∃ r, prngReg c r)) ⊢ (Pipeline.ΦA spec1 c : sProp 𝕄) := by
  unfold Pipeline.ΦA others; rw [scopedRest1_eq]; simp only [scr, owns_whole]
  iintro ⟨⟨H1, H2, H3, H4, H5, H6⟩, H7, Hp⟩
  isplitr [Hp]
  · isplitl [H1]; · iexact H1
    isplitl [H2]; · iexact H2
    isplitl [H3]; · iexact H3
    isplitl [H4]; · iexact H4
    isplitl [H5]; · iexact H5
    isplitl [H6]; · iexact H6
    iexact H7
  iexact Hp

/-- The invariant before point `n`: the scratch at what the point before left. -/
def phi (c : Dev nD) : (n : ℕ) → n ≤ cfg1.N → sProp 𝕄
  | 0, _ => Pipeline.ΦA spec1 c
  | n + 1, hn => iprop(others c ∗ owns (c : Thread nD τ) scr fullShare (colAt V c n hn) ∗ (∃ r, prngReg c r))

theorem phi_pos (c : Dev nD) (n : ℕ) (h : n ≤ cfg1.N) (hz : n ≠ 0) :
    phi V c n h = iprop(others c ∗ owns (c : Thread nD τ) scr fullShare (colAt V c (n - 1) (by omega)) ∗ (∃ r, prngReg c r)) := by
  cases n with
  | zero => exact absurd rfl hz
  | succ n => rfl

/-- The invariant with the scratch's contents forgotten. -/
theorem phi_any (c : Dev nD) (n : ℕ) (h : n ≤ cfg1.N) :
    phi V c n h ⊢ iprop(others c ∗ (∃ d, owns (c : Thread nD τ) scr fullShare d) ∗ (∃ r, prngReg c r)) := by
  cases n with
  | zero => exact phi_open c
  | succ n =>
    unfold phi
    iintro ⟨Ho, Hs, Hp⟩
    isplitl [Ho]; · iexact Ho
    isplitl [Hs]; · iexists _; iexact Hs
    iexact Hp

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => accAt V c t.val t.isLt
  Φ t := phi V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = accAt V c t.val t.isLt := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]) t d).trans
    (by unfold Dat.fetched Dat.blockOf blk1; rw [A_eq1]; try rfl)
/-- At a later row block the partial sum's buffer holds what the point before left. -/
theorem before1_6 (c : Dev nD) (t : Fin cfg1.N) (h : ¬t.val % 8 = 0) (d) :
    (dat1 V c).before 6 t d = accAt V c (t.val - 1) (Nat.lt_of_le_of_lt (Nat.sub_le _ _) t.isLt) :=
  ((dat1 V c).before_out_kept 6 rfl t (fun h0 => h (by rw [h0])) (Bool.eq_false_iff.mpr fun hf =>
      h (by have hq : (t.val - 1) % 8 = 7 := (flush1_6 ⟨t.val - 1, Nat.lt_of_le_of_lt (Nat.sub_le _ _) t.isLt⟩).mp hf; omega))
    (fun _ => rfl) (fun _ _ => rfl) d).trans (after1_6 V c _)

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem Phi_castSucc (c : Dev nD) (t : Fin cfg1.N) : (dat1 V c).Φ t.castSucc = phi V c t.val (Nat.le_of_lt t.isLt) := by
  dsimp only [dat1]; exact Pipeline.Dat.Φ_castSucc (phi V c) t

set_option maxHeartbeats 1600000 in
theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = iprop(others c ∗ owns (c : Thread nD τ) scr fullShare (colAt V c t.val t.isLt) ∗ (∃ r, prngReg c r)) from rfl]
  rw [Phi_castSucc V c t]
  have hN : t.val < 128 := lt_of_lt_of_eq t.isLt (show cfg1.N = 128 from N_1)
  have hr : BitVec.ofNat 32 (grid1.coords t 1).val = BitVec.ofNat 32 (t.val % 8) := by rw [coord1]
  by_cases h0 : t.val % 8 = 0
  · have hc1 : ¬isLater (grid1.coords t) := fun h => by have := (hLater t).mp h; omega
    rw [colAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (phi_any V c t.val (Nat.le_of_lt t.isLt)) $$ HΦ
    icases HΦ' with ⟨HR, HS, Hp⟩
    iapply (loss_run_first c Set.univ (grid1.coords t) _ _ _ _ _ _ _ _ _ _ _ _ _ _ _ _ ((hFirst t).mpr h0) hc1 (blk1 V c 0 t) (blk1 V c 1 t) (blk1 V c 2 t) (blk1 V c 3 t) (blk1 V c 4 t) (blk1 V c 5 t) ((dat1 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    rw [accAt_first V c t h0 ((dat1 V c).before 6 t d6), hr]
    unfold lossStep
    rw [colAt_first V c t h0]
    iintro ⟨H0, H1, H2, H3, H4, H5, H6, HS⟩
    isplitl [HR HS Hp]
    · isplitl [HR]; · iexact HR
      isplitl [HS]; · iexact HS
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬isFirst (grid1.coords t) := fun h => h0 ((hFirst t).mp h)
    have hc1 : isLater (grid1.coords t) := (hLater t).mpr (by omega)
    rw [phi_pos V c t.val _ (fun hz => h0 (by rw [hz])), colAt_later V c t h0]
    simp only [before1_6 V c t h0]
    iintro ⟨⟨HR, HS, Hp⟩, Ho, ⟨%d0, H0⟩, ⟨%d1, H1⟩, ⟨%d2, H2⟩, ⟨%d3, H3⟩, ⟨%d4, H4⟩, ⟨%d5, H5⟩, ⟨%d6, H6⟩⟩
    iapply (loss_run_later c Set.univ (grid1.coords t) _ _ _ _ _ _ _ _ _ _ _ _ _ _ _ _ hc0 hc1 (blk1 V c 0 t) (blk1 V c 1 t) (blk1 V c 2 t) (blk1 V c 3 t) (blk1 V c 4 t) (blk1 V c 5 t)
      (accAt V c (t.val - 1) (Nat.lt_of_le_of_lt (Nat.sub_le _ _) t.isLt)) (colAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    rw [accAt_later V c t h0, hr]
    unfold lossStep
    rw [colAt_later V c t h0]
    iintro ⟨H0, H1, H2, H3, H4, H5, H6, HS⟩
    isplitl [HR HS Hp]
    · isplitl [HR]; · iexact HR
      isplitl [HS]; · iexact HS
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 (F := F) V c) (defs₀ (F := F)) Variants.none () Set.univ := fun t => by
  rw [bigSep_W1, bigSep_W1, row1]
  exact triple_restated (sound_body1 V c t) rfl .rfl fun _ => .rfl

theorem in1 (c : Dev nD) : Pipeline.ΦA spec1 c ⊢ (dat1 V c).Φ 0 := by
  rw [show (dat1 V c).Φ 0 = Pipeline.ΦA spec1 c from rfl]
theorem out1 (c : Dev nD) : (dat1 V c).Φ (Fin.last cfg1.N) ⊢ Pipeline.ΦA spec1 c :=
  (phi_any V c (Fin.last cfg1.N).val (Nat.le_of_lt_succ (Fin.last cfg1.N).isLt)).trans (phi_close c)

end Cert.KernelIdeal.Run

end
-- ==== Proof.IdealRun.lean ====
/-
  The whole program's run: the two regions over the thread state "every unscoped buffer at a valuation", the values
  the regions leave in their outputs, and the launch: every argument kept, the result at the last valuation.
-/
module

public import proofs.«01_k».proof.Proof.IdealRegions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 0 is entered from. -/
def entry0 : Vals (F := F) := fun c b => V1 m c (Proc.devRef .tc b)

/-- What region 0 leaves in its output. -/
def curvOut (c : Dev nD) : Buf (Elt F) ((c : Thread nD τ).loc main_call0_v6) := (dat0 (entry0 m) c).arrAt 2 cfg0.N

/-- The contents after region 0. -/
def outsA : Outs (F := F) := fun _ r c => Function.update (fun r : Ref sig .tc => m ((c : Thread nD τ).loc r)) main_call0_v6 (curvOut m c) r

/-- The buffers region 1 is entered from. -/
def entry1 : Vals (F := F) := fun c b => V3 m (outsA m) c (Proc.devRef .tc b)

/-- What region 1 leaves in its output. -/
def lossOut (c : Dev nD) : Buf (Elt F) ((c : Thread nD τ).loc main_call0_v8) := (dat1 (entry1 m) c).arrAt 6 cfg1.N

/-- The contents each region leaves. -/
def outs : Outs (F := F)
  | 4, r, c => Function.update (fun r : Ref sig .tc => m ((c : Thread nD τ).loc r)) main_call0_v8 (lossOut m c) r
  | J, r, c => outsA m J r c

theorem outs_curv (c : Dev nD) : outs m 2 main_call0_v6 c = curvOut m c := by
  unfold outs outsA; exact Function.update_self ..
theorem outs_loss (c : Dev nD) : outs m 4 main_call0_v8 c = lossOut m c := by
  unfold outs; exact Function.update_self ..
theorem entry1_eq (c : Dev nD) (b : Ref sig .tc) : entry1 m c b = V3 m (outs m) c (Proc.devRef .tc b) := rfl

def pdats : (p : Fin 2) → (c : Dev nD) → Dat τ (Elt F) Unit ℕ (UR sig nD τ) ℕ (cfgs p) c
  | ⟨0, _⟩ => dat0 (entry0 m)
  | ⟨1, _⟩ => dat1 (entry1 m)

abbrev 𝒱 : Variants := Variants.none
abbrev lev : GSem nD τ sig → Finset Unit := fun _ => ∅
abbrev lvl : GSem nD τ sig → Unit → ℕ := fun _ _ => 0

/-- What rides along the host stretches: the generator register and nothing owed. -/
abbrev rest (c : Dev nD) : sProp 𝕄 := iprop((∃ r, prngReg c r) ∗ ∃ W, owes (c : Thread nD τ) (0 : CellTallies nD τ sig Unit) W)

theorem V2_at (c : Dev nD) : V2 m (outs m) c (Proc.devRef .tc main_call0_v6) = curvOut m c := by
  unfold V2; rw [Function.update_self]; exact outs_curv m c
theorem V2_ne (c : Dev nD) (b : Ref sig .tc) (h : b ≠ main_call0_v6) : V2 m (outs m) c (Proc.devRef .tc b) = V1 m c (Proc.devRef .tc b) := by
  unfold V2; exact Function.update_of_ne (fun e => h (Proc.devRef_injective _ e)) ..
theorem V4_at (c : Dev nD) : V4 m (outs m) c (Proc.devRef .tc main_call0_v8) = lossOut m c := by
  unfold V4; rw [Function.update_self]; exact outs_loss m c
theorem V4_ne (c : Dev nD) (b : Ref sig .tc) (h : b ≠ main_call0_v8) : V4 m (outs m) c (Proc.devRef .tc b) = V3 m (outs m) c (Proc.devRef .tc b) := by
  unfold V4; exact Function.update_of_ne (fun e => h (Proc.devRef_injective _ e)) ..

theorem arr_in1 : ∀ w : Fin cfg1.W, w ≠ 6 → (cfg1.win w).isOut = false :=
  (by decide : ∀ w : Fin 7, w ≠ 6 → (cfg1.win w).isOut = false)
theorem arr_ne1 : ∀ w : Fin cfg1.W, w ≠ 6 → Pipeline.arrRef spec1 w ≠ main_call0_v8 :=
  (by decide : ∀ w : Fin 7, w ≠ 6 → Pipeline.arrRef spec1 w ≠ main_call0_v8)

set_option backward.isDefEq.respectTransparency.types false in
def reg0 : RegionSeg (pcfgs (F := F)) adm (pdats m) () defs₀ 𝒱 lev lvl 0 where
  win := launch0.win.to₀
  block_pos := launch0.block_pos
  stage_whole := launch0.stage_whole
  K := PEmpty
  osem k := k.elim
  ho := Pipeline.OwnSemFacts.none _
  hbody c := (body0 (entry0 m) c).loose
  hwaits := Pipeline.hwaits_of_owed_zero _ _ _ _ lev lvl 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none,
      show StableHlo.held (c : Thread nD τ) (Pipeline.ucRefs τ sig) (V1 m c) = unscopedBufs c (entry0 m c)
        from (Pipeline.unscopedBufs_held (Ix := Unit) (Name := ℕ) (U := UR sig nD τ) (Lvl := ℕ) c (V1 m c)).symm]
    have hsplit := Pipeline.arrays_of_unscopedBufs (p := 0) (pcfgs (F := F)) adm (pdats m) launch0.win launch0.arr_whole c
      ((pdats m 0 c).share_full fun _ => rfl) (entry0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr] <;> iassumption
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (entry0 m c) (fun b => V2 m (outs m) c (Proc.devRef .tc b)) ((pdats m 0 c).arrAt · cfg0.N)
      (fun w => by
        fin_cases w
        · exact ((pdats m 0 c).arrAt_in 0 rfl _).trans (V2_ne m c main_call0_v1 (by decide)).symm
        · exact ((pdats m 0 c).arrAt_in 1 rfl _).trans (V2_ne m c main_call0_v4 (by decide)).symm
        · exact (V2_at m c).symm)
      (fun b hb => V2_ne m c b fun h => hb (h ▸ Finset.mem_image.mpr ⟨2, Finset.mem_univ _, rfl⟩))
    rw [show StableHlo.held (c : Thread nD τ) (Pipeline.ucRefs τ sig) (V2 m (outs m) c) = unscopedBufs c (fun b => V2 m (outs m) c (Proc.devRef .tc b))
        from (Pipeline.unscopedBufs_held (Ix := Unit) (Name := ℕ) (U := UR sig nD τ) (Lvl := ℕ) c (V2 m (outs m) c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
def reg1 : RegionSeg (pcfgs (F := F)) adm (pdats m) () defs₀ 𝒱 lev lvl 1 where
  win := launch1.win.to₀
  block_pos := launch1.block_pos
  stage_whole := launch1.stage_whole
  K := PEmpty
  osem k := k.elim
  ho := Pipeline.OwnSemFacts.none _
  hbody c := (body1 (entry1 m) c).loose
  hwaits := Pipeline.hwaits_of_owed_zero _ _ _ _ lev lvl 1 fun _ _ => rfl
  pre c := iprop(StableHlo.held (c : Thread nD τ) (Pipeline.ucRefs τ sig) (V3 m (outs m) c) ∗ rest c)
  post c := iprop(StableHlo.held (c : Thread nD τ) (Pipeline.ucRefs τ sig) (V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none,
      show StableHlo.held (c : Thread nD τ) (Pipeline.ucRefs τ sig) (V3 m (outs m) c) = unscopedBufs c (entry1 m c)
        from (Pipeline.unscopedBufs_held (Ix := Unit) (Name := ℕ) (U := UR sig nD τ) (Lvl := ℕ) c (V3 m (outs m) c)).symm]
    have hsplit := Pipeline.arrays_of_unscopedBufs (p := 1) (pcfgs (F := F)) adm (pdats m) launch1.win launch1.arr_whole c
      ((pdats m 1 c).share_full fun _ => rfl) (entry1 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (in1 (entry1 m) c)
    unfold Pipeline.ΦA
    iintro ⟨Hp, -, Hr⟩
    isplitl [Hr] <;> iassumption
  hout c := by
    refine (out1 (entry1 m) c).trans ?_
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (entry1 m c) (fun b => V4 m (outs m) c (Proc.devRef .tc b)) ((pdats m 1 c).arrAt · cfg1.N)
      (fun w => by
        by_cases hw : w = 6
        · subst hw; exact (V4_at m c).symm
        · refine ((pdats m 1 c).arrAt_in w (arr_in1 w hw) _).trans (V4_ne m c (Pipeline.arrRef spec1 w) (arr_ne1 w hw)).symm)
      (fun b hb => V4_ne m c b fun h => hb (h ▸ Finset.mem_image.mpr ⟨6, Finset.mem_univ _, rfl⟩))
    rw [show StableHlo.held (c : Thread nD τ) (Pipeline.ucRefs τ sig) (V4 m (outs m) c) = unscopedBufs c (fun b => V4 m (outs m) c (Proc.devRef .tc b))
        from (Pipeline.unscopedBufs_held (Ix := Unit) (Name := ℕ) (U := UR sig nD τ) (Lvl := ℕ) c (V4 m (outs m) c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Every weakly fair execution ends with the arguments as launched, the result at the last valuation and every
    semaphore at zero. -/
theorem run_values (ρ : Dev nD → PrngReg) :
    θ_run defs (onTc (τ := τ) (main (F := F))) ⟨m, fun _ => 0, ρ⟩ (fun r => (∀ c : Dev nD,
      r.2.mem ((c.tc : Thread nD τ).loc main_v0) = V5 m (outs m) c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ 𝒱 lev lvl m ρ main
    (segs m (outs m) 𝒱 lev lvl (fun _ => rest) () (pdats m) (reg0 m) (reg1 m))
    (fun c Q => by
      rewrite [main_chain c, Seg.run_eq_chain,
        show (segs m (outs m) 𝒱 lev lvl (fun _ => rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, .rfl, .rfl, .rfl, .rfl, (show iprop(StableHlo.held (c : Thread nD τ) (Pipeline.ucRefs τ sig) (V5 m (outs m) c) ∗ rest c) ⊢ (_ : sProp 𝕄) from by
        iintro ⟨Hh, -, HO⟩
        isplitl [Hh] <;> iassumption)⟩)
    (hinit := ?_) (QY := fun c s => s.mem ((c.tc : Thread nD τ).loc main_v0) = V5 m (outs m) c (Proc.devRef .tc main_v0) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · refine Pipeline.initEach lev lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists _; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c)⟩
    · iexact HSI

end Cert.KernelIdeal.Run

end
-- ==== Proof.Nearest.lean ====
/-
  The nearest points of a row of distances: the positions of the row in the order of its values, the values one takes
  by «the least value above the last one», and the sums a mask «at most the last such value» selects. Where the first
  values are distinct, the two ways of selecting agree.
-/
module

public import Idealize.ShloMosaic.PureOps
public import Idealize.ShloMosaic.Lib.SortFacts
public import Idealize.ShloMosaic.Lib.Pointwise

@[expose] public section

noncomputable section

namespace Cert.Cloud

open Idealize.ShloMosaic

variable {n : ℕ}

/-- The positions of a row, the least value first: the stable sort of the negated values, greatest first. -/
def order (r : Fin n → EReal) : Fin n → Fin n :=
  sortedFrom fun a b => Ideal.cmp .ogt (-r a) (-r b) == 1#1

theorem cmp_ogt (a b : EReal) : Ideal.cmp .ogt a b = BitVec.ofBool (decide (b < a)) := rfl
theorem cmp_ole (a b : EReal) : Ideal.cmp .ole a b = BitVec.ofBool (decide (a ≤ b)) := rfl

theorem before_iff (r : Fin n → EReal) (a b : Fin n) :
    (Ideal.cmp .ogt (-r a) (-r b) == 1#1) = decide (r a < r b) := by
  rw [cmp_ogt]
  by_cases h : r a < r b
  · have : -r b < -r a := EReal.neg_lt_neg_iff.mpr h
    simp [h, this]
  · have : ¬ -r b < -r a := fun h' => h (EReal.neg_lt_neg_iff.mp h')
    simp [h, this]

theorem order_injective (r : Fin n → EReal) : Function.Injective (order r) := sortedFrom_injective _
theorem order_surjective (r : Fin n → EReal) : Function.Surjective (order r) := sortedFrom_surjective _

theorem order_mono (r : Fin n → EReal) {p q : Fin n} (h : p ≤ q) : r (order r p) ≤ r (order r q) := by
  rcases h.lt_or_eq with h | rfl
  · have key := sortedFrom_noInversion (fun a b : Fin n => Ideal.cmp .ogt (-r a) (-r b) == 1#1)
      (fun a b : Fin n => Ideal.cmp .ogt (-r a) (-r b) == 1#1)
      (fun a b h => by simp only [before_iff, decide_eq_true_eq, decide_eq_false_iff_not, not_lt] at h ⊢; exact h.le)
      (fun a b h => h)
      (fun a b c h h' => by simp only [before_iff, decide_eq_false_iff_not, not_lt] at h h' ⊢; exact h'.trans h) p q h
    change (Ideal.cmp .ogt (-r (order r q)) (-r (order r p)) == 1#1) = false at key
    rw [before_iff] at key
    simpa using key
  · exact le_rfl

/-- The first `k` steps along a row's order go up: its least `k + 1` values are distinct. -/
def Apart (r : Fin n → EReal) (k : ℕ) : Prop :=
  ∀ p (h : p + 1 < n), p < k → r (order r ⟨p, by omega⟩) < r (order r ⟨p + 1, h⟩)

theorem Apart.mono {r : Fin n → EReal} {k l : ℕ} (h : Apart r k) (hl : l ≤ k) : Apart r l :=
  fun p hp hpl => h p hp (by omega)

/-- The least value, then each time the least value above the last one. -/
def level (r : Fin n → EReal) : ℕ → EReal
  | 0 => Finset.univ.inf r
  | p + 1 => Finset.univ.inf fun j => if level r p < r j then r j else ⊤

theorem level_eq (r : Fin n → EReal) {k : ℕ} (hr : Apart r k) : ∀ p (h : p < n), p ≤ k → level r p = r (order r ⟨p, h⟩)
  | 0, h, _ => by
    refine le_antisymm (Finset.inf_le (Finset.mem_univ _)) (Finset.le_inf fun j _ => ?_)
    obtain ⟨q, rfl⟩ := order_surjective r j
    exact order_mono r (Nat.zero_le _)
  | p + 1, h, hk => by
    have ih := level_eq r hr p (by omega) (by omega)
    have hs := hr p h (by omega)
    rw [level, ih]
    refine le_antisymm ((Finset.inf_le (Finset.mem_univ (order r ⟨p + 1, h⟩))).trans ?_) (Finset.le_inf fun j _ => ?_)
    · rw [if_pos hs]
    · obtain ⟨q, rfl⟩ := order_surjective r j
      split
      · rename_i hq
        refine order_mono r ?_
        by_contra hlt
        have : q ≤ ⟨p, by omega⟩ := by
          simp only [Fin.le_def, not_le] at hlt ⊢; omega
        exact absurd (order_mono r this) (not_le.mpr hq)
      · exact le_top

theorem le_level_iff (r : Fin n → EReal) {k : ℕ} (hk : k + 1 < n) (hr : Apart r (k + 1)) (q : Fin n) :
    r (order r q) ≤ level r k ↔ q.val < k + 1 := by
  rw [level_eq r hr k (by omega) (by omega)]
  constructor
  · intro h
    by_contra hq
    have h1 : r (order r ⟨k + 1, hk⟩) ≤ r (order r q) := order_mono r (by simp only [Fin.le_def]; omega)
    exact absurd (h1.trans h) (not_le.mpr (hr k hk (by omega)))
  · intro h
    exact order_mono r (by simp only [Fin.le_def]; omega)

/-- The position of the `q`-th nearest of `k`. -/
def near (r : Fin n → EReal) {k : ℕ} (hk : k ≤ n) (q : Fin k) : Fin n := order r (q.castLE hk)

/-- A sum over the row that the mask «at most the `k`-th level» selects is the sum over the `k` nearest. -/
theorem sum_le_level {M : Type} [AddCommMonoid M] (r : Fin n → EReal) {k : ℕ} (hk : k + 1 < n) (hr : Apart r (k + 1)) (f : Fin n → M) :
    (∑ j, if r j ≤ level r k then f j else 0) = ∑ q : Fin (k + 1), f (near r (by omega) q) := by
  have e : (∑ j, if r j ≤ level r k then f j else 0) = ∑ q : Fin n, if q.val < k + 1 then f (order r q) else 0 := by
    rw [← Equiv.sum_comp (Equiv.ofBijective (order r) ⟨order_injective r, order_surjective r⟩)]
    refine Finset.sum_congr rfl fun q _ => ?_
    exact if_congr (le_level_iff r hk hr q) rfl rfl
  rw [e, ← Finset.sum_filter]
  symm
  refine Finset.sum_bij (fun q _ => q.castLE (by omega)) ?_ ?_ ?_ ?_
  · intro q _
    simp only [Finset.mem_filter, Finset.mem_univ, true_and]
    exact q.isLt
  · intro a _ b _ h; simpa using h
  · intro b hb
    simp only [Finset.mem_filter, Finset.mem_univ, true_and] at hb
    exact ⟨⟨b.val, hb⟩, Finset.mem_univ _, rfl⟩
  · intro q _; rfl

/-! ## Coordinates are finite where distances are apart -/

/-- The distance of a point to each of a cloud, in the three terms it is added from. -/
def sqDist (x : Fin 3 → EReal) (y : Fin n → Fin 3 → EReal) (j : Fin n) : EReal :=
  (Ideal.ofBits .f32 0xC0000000#32 * (∑ k, x k * y j k) + ∑ k, x k * x k) + ∑ k, y j k * y j k

theorem mul_self_ne_bot (a : EReal) : a * a ≠ ⊥ := by
  induction a <;> simp [← EReal.coe_mul]
theorem sq_nonneg (a : EReal) : 0 ≤ a * a := by
  induction a
  · simp
  · rw [← EReal.coe_mul]; exact_mod_cast mul_self_nonneg _
  · simp

theorem top_of_infinite (x : Fin 3 → EReal) (k : Fin 3) (h : x k = ⊤ ∨ x k = ⊥) : ∑ k, x k * x k = ⊤ := by
  have hk : x k * x k = ⊤ := by rcases h with h | h <;> simp [h]
  refine top_le_iff.mp ?_
  rw [← hk]
  exact Finset.single_le_sum (f := fun k => x k * x k) (fun i _ => sq_nonneg _) (Finset.mem_univ k)

theorem sqDist_infinite (x : Fin 3 → EReal) (y : Fin n → Fin 3 → EReal) (k : Fin 3) (h : x k = ⊤ ∨ x k = ⊥) (j : Fin n) :
    sqDist x y j = ⊤ ∨ sqDist x y j = ⊥ := by
  unfold sqDist
  rw [top_of_infinite x k h]
  have hb : (0 : EReal) ≤ ∑ k, y j k * y j k := Finset.sum_nonneg fun i _ => sq_nonneg _
  have hb' : (∑ k, y j k * y j k) ≠ ⊥ := fun e => by rw [e] at hb; exact absurd hb (by simp)
  generalize Ideal.ofBits .f32 0xC0000000#32 * (∑ k, x k * y j k) = a
  by_cases ha : a = ⊥
  · right; rw [ha]; simp
  · left; rw [EReal.add_top_of_ne_bot ha, EReal.top_add_of_ne_bot hb']

/-- A point whose distances have three distinct values has finite coordinates. -/
theorem finite_of_apart (x : Fin 3 → EReal) (y : Fin n → Fin 3 → EReal) (hn : 2 < n) (h : Apart (sqDist x y) 2) (k : Fin 3) :
    ∃ a : ℝ, x k = a := by
  by_contra hx
  have hx' : x k = ⊤ ∨ x k = ⊥ := by
    induction hk : x k with
    | bot => exact .inr rfl
    | top => exact .inl rfl
    | coe a => exact absurd ⟨a, hk⟩ hx
  have h0 := h 0 (by omega) (by omega)
  have h1 := h 1 (by omega) (by omega)
  rcases sqDist_infinite x y k hx' (order (sqDist x y) ⟨1, by omega⟩) with e | e
  · rw [e] at h1; exact absurd h1 not_top_lt
  · rw [e] at h0; exact absurd h0 not_lt_bot

end Cert.Cloud
-- ==== Proof.KernelRead.lean ====
/-
  The kernels' vector operations read at an index of a row block: the least value of a row, the least above the last
  one, the mask «at most the last such value», and the distances.
-/
module

public import proofs.«01_k».proof.Proof.IdealBodies
public import proofs.«01_k».proof.Proof.Nearest
public import Idealize.ShloMosaic.Lib.Pointwise

@[expose] public section

set_option maxRecDepth 16384

noncomputable section

namespace Cert.KernelIdeal.Block

open Cert.KernelIdeal Cert.KernelIdeal.Gen Cert.Cloud
open Idealize.ShloMosaic

/-- The least value of each row, as a column. -/
def rowMin (D : FVec Ideal S256x2048 .f32) : FVec Ideal S256x1 .f32 :=
  shapeCast S256x1 (multiReduction .minimumf [1] S256 D 0x7F800000#32 reduces_S256x2048_S256 (.inl rfl) rfl) shapeCasts_S256_S256x1

/-- The least value of each row above the column's. -/
def nextMin (D : FVec Ideal S256x2048 .f32) (m : FVec Ideal S256x1 .f32) : FVec Ideal S256x1 .f32 :=
  rowMin (select (cmpf .ogt D (broadcastTo S256x2048 m broadcasts_S256x1_S256x2048)) D (broadcast S256x2048 (Scalar.ofBits .f32 0x7F800000#32)))

/-- The mask of the values at most the column's. -/
def nearMask (D : FVec Ideal S256x2048 .f32) (m : FVec Ideal S256x1 .f32) : FVec Ideal S256x2048 .f32 :=
  sitofp .f32 (extui 32 (cmpf .ole D (broadcastTo S256x2048 m broadcasts_S256x1_S256x2048)) natLt_1_32)

/-- A row of a block. -/
def row (D : FVec Ideal S256x2048 .f32) (a : Fin 256) (j : Fin 2048) : EReal := D (ix2 a j)

theorem inf_top : Ideal.ofBits .f32 0x7F800000#32 = ⊤ := by simp [Ideal.ofBits, Ideal.ieee]

theorem rowMin_apply (D : FVec Ideal S256x2048 .f32) (a : Fin 256) : rowMin D (ix2 a 0) = Finset.univ.inf (row D a) := by
  unfold rowMin
  pointwise
  rw [inf_top]; rfl

theorem nearMask_apply (D : FVec Ideal S256x2048 .f32) (m : FVec Ideal S256x1 .f32) (a : Fin 256) (j : Fin 2048) :
    nearMask D m (ix2 a j) = if D (ix2 a j) ≤ m (ix2 a 0) then 1 else 0 := by
  unfold nearMask
  pointwise
  by_cases h : D (ix2 a j) ≤ m (ix2 a 0)
  · rw [decide_eq_true h, if_pos h]
    have e : (BitVec.setWidth 32 (BitVec.ofBool true)).toInt = 1 := by decide
    show (((BitVec.setWidth 32 (BitVec.ofBool true)).toInt : ℝ) : EReal) = 1
    rw [e]; simp
  · rw [decide_eq_false h, if_neg h]
    have e : (BitVec.setWidth 32 (BitVec.ofBool false)).toInt = 0 := by decide
    show (((BitVec.setWidth 32 (BitVec.ofBool false)).toInt : ℝ) : EReal) = 0
    rw [e]; simp

theorem nextMin_apply (D : FVec Ideal S256x2048 .f32) (m : FVec Ideal S256x1 .f32) (a : Fin 256) :
    nextMin D m (ix2 a 0) = Finset.univ.inf fun j => if m (ix2 a 0) < row D a j then row D a j else ⊤ := by
  unfold nextMin
  rw [rowMin_apply]
  congr 1
  funext j
  unfold row
  pointwise
  rw [inf_top]

/-- The least values of each row in turn. -/
def mins (D : FVec Ideal S256x2048 .f32) : ℕ → FVec Ideal S256x1 .f32
  | 0 => rowMin D
  | p + 1 => nextMin D (mins D p)

theorem mins_apply (D : FVec Ideal S256x2048 .f32) (a : Fin 256) : ∀ p, mins D p (ix2 a 0) = level (row D a) p
  | 0 => rowMin_apply D a
  | p + 1 => by rw [mins, nextMin_apply, mins_apply D a p]; rfl

/-- The mask of the nearest of a row, as a number. -/
def hit (r : Fin 2048 → EReal) (p : ℕ) (j : Fin 2048) : EReal := if r j ≤ level r p then 1 else 0

theorem mask_apply (D : FVec Ideal S256x2048 .f32) (p : ℕ) (a : Fin 256) (j : Fin 2048) :
    nearMask D (mins D p) (ix2 a j) = hit (row D a) p j := by
  rw [nearMask_apply, mins_apply]; rfl

/-- The sum of the nearest's values less the point's own as often, over 9. -/
def curvRow (r : Fin 2048 → EReal) (v : Fin 2048 → EReal) (x : EReal) : EReal :=
  Ideal.div ((∑ j, hit r 9 j * v j) - (∑ j, hit r 9 j) * x) (Ideal.ofBits .f32 0x41100000#32)

/-! ## The curvature kernel's block -/

theorem k0_dist (x0 : Vec Ideal S1x256x3 .f32) (x1 : Vec Ideal S1x3x2048 .f32) (a : Fin 256) :
    row (k0_pay4 x0 x1) a = sqDist (fun k => x0 (ix3 0 a k)) (fun j k => x1 (ix3 0 k j)) := by
  funext j
  unfold sqDist row
  pointwise [k0_pay4, k0_pay2, k0_pay3]

theorem k0_mask (x0 : Vec Ideal S1x256x3 .f32) (x1 : Vec Ideal S1x3x2048 .f32) :
    k0_pay6 (k0_pay4 x0 x1) (k0_pay5 x0 x1) = nearMask (k0_pay4 x0 x1) (mins (k0_pay4 x0 x1) 9) := rfl

theorem k0_cnt (x0 : Vec Ideal S1x256x3 .f32) (x1 : Vec Ideal S1x3x2048 .f32) (a : Fin 256) :
    k0_pay7 (k0_pay4 x0 x1) (k0_pay5 x0 x1) (ix2 a 0) = ∑ j, hit (row (k0_pay4 x0 x1) a) 9 j := by
  unfold k0_pay7
  rw [k0_mask]
  pointwise
  simp only [mask_apply]

theorem k0_sum (v3 : FVec Ideal S3x2048 .f32) (x0 : Vec Ideal S1x256x3 .f32) (x1 : Vec Ideal S1x3x2048 .f32) (a : Fin 256) :
    k0_pay8 v3 (k0_pay4 x0 x1) (k0_pay5 x0 x1) (ix2 a 0) = ∑ j, hit (row (k0_pay4 x0 x1) a) 9 j * v3 (ix2 0 j) := by
  unfold k0_pay8
  rw [k0_mask]
  pointwise
  simp only [mask_apply]

theorem curvOf_apply (x0 : Vec Ideal S1x256x3 .f32) (x1 : Vec Ideal S1x3x2048 .f32) (a : Fin 256) (k : Fin 3) :
    Run.curvOf x0 x1 (ix3 0 a k)
      = curvRow (sqDist (fun k => x0 (ix3 0 a k)) (fun j k => x1 (ix3 0 k j))) (fun j => x1 (ix3 0 k j)) (x0 (ix3 0 a k)) := by
  rw [← k0_dist]
  unfold Run.curvOf
  pointwise [k0_pay1]
  fin_vals k with hk
  all_goals simp only [hk, Nat.reduceSub, Nat.reduceLT, ↓reduceDIte]
  all_goals unfold curvRow
  · obtain rfl : k = 0 := Fin.ext hk
    rw [show (⟨0, by omega⟩ : Fin 1) = 0 from rfl, k0_sum, k0_cnt]
    pointwise [k0_pay9, k0_pay3, k0_pay2]
  · obtain rfl : k = 1 := Fin.ext hk
    rw [show (⟨0, by omega⟩ : Fin 1) = 0 from rfl, k0_cnt, k0_mask]
    simp only [mask_apply]
    pointwise [k0_pay3, k0_pay2]
  · obtain rfl : k = 2 := Fin.ext hk
    rw [show (⟨0, by omega⟩ : Fin 1) = 0 from rfl, k0_cnt, k0_mask]
    simp only [mask_apply]
    pointwise [k0_pay3, k0_pay2]

/-! ## The loss kernel's block -/

theorem k1_dist (x0 : Vec Ideal S1x256x3 .f32) (x2 : Vec Ideal S1x3x2048 .f32) (a : Fin 256) :
    row (k1_pay12 x0 x2) a = sqDist (fun k => x0 (ix3 0 a k)) (fun j k => x2 (ix3 0 k j)) := by
  funext j
  unfold sqDist row
  pointwise [k1_pay12, k1_pay5, k1_pay7]

theorem distOf_row (x0 x1 : Vec Ideal S1x256x3 .f32) (x4 : Vec Ideal S1x3x2048 .f32) (a : Fin 256) :
    row (Run.distOf x0 x1 x4) a = sqDist (fun k => x0 (ix3 0 a k) + x1 (ix3 0 a k)) (fun j k => x4 (ix3 0 k j)) := by
  funext j
  unfold sqDist row Run.distOf
  pointwise [k1_pay19, k1_pay9, k1_pay10, k1_pay18, k1_pay5, k1_pay6]

theorem k1_mins8 (x0 : Vec Ideal S1x256x3 .f32) (x2 : Vec Ideal S1x3x2048 .f32) :
    k1_pay14 (k1_pay12 x0 x2) (k1_pay13 x0 x2) = mins (k1_pay12 x0 x2) 8 := rfl

theorem k1_pay16_eq (v10 : FVec Ideal S256x3 .f32) (v11 : FVec Ideal S3x2048 .f32) (x0 : Vec Ideal S1x256x3 .f32) (x2 : Vec Ideal S1x3x2048 .f32) (a : Fin 256) (k : Fin 3) :
    k1_pay16 v10 v11 (k1_pay12 x0 x2) (k1_pay15 (k1_pay12 x0 x2) (k1_pay13 x0 x2)) (ix2 a k)
      = curvRow (row (k1_pay12 x0 x2) a) (fun j => v11 (ix2 k j)) (v10 (ix2 a k)) := by
  have e : k1_pay16 v10 v11 (k1_pay12 x0 x2) (k1_pay15 (k1_pay12 x0 x2) (k1_pay13 x0 x2))
      = divf (subf (matmul dot_S256x2048_S3x2048_S256x3_1_1_0_0_n_n none (truncf .bf16 (nearMask (k1_pay12 x0 x2) (mins (k1_pay12 x0 x2) 9)) bitsLt_bf16_f32) (truncf .bf16 v11 bitsLt_bf16_f32) (constant S256x3 .f32 0x00000000#32))
          (mulf (broadcastTo S256x3 (shapeCast S256x1 (multiReduction .add [1] S256 (nearMask (k1_pay12 x0 x2) (mins (k1_pay12 x0 x2) 9)) 0x00000000#32 reduces_S256x2048_S256 (.inl rfl) rfl) shapeCasts_S256_S256x1) broadcasts_S256x1_S256x3) v10))
        (broadcast S256x3 (Scalar.ofBits .f32 0x41100000#32)) := rfl
  rw [e]
  unfold curvRow
  pointwise
  simp only [mask_apply]

/-- The length of the difference of two vectors, kept off 0. -/
def gap (u v : Fin 3 → EReal) : EReal :=
  Ideal.sqrt (max ((v 0 - u 0) * (v 0 - u 0) + (v 1 - u 1) * (v 1 - u 1) + (v 2 - u 2) * (v 2 - u 2)) (Ideal.ofBits .f32 0x179ABE15#32))

theorem k1_smooth (v3 : FVec Ideal S256x3 .f32) (v7 : FVec Ideal S3x2048 .f32) (D : FVec Ideal S256x2048 .f32) :
    k1_pay17 v3 v7 D (mins D 8)
      = Ideal.div (∑ a, ∑ j, hit (row D a) 8 j * gap (fun k => v3 (ix2 a k)) (fun k => v7 (ix2 k j))) (Ideal.ofBits .f32 0x41000000#32) := by
  unfold k1_pay17 gap
  change Scalar.divf (extractAt _ (shapeCast S1x1x1 (multiReduction .add [1, 2] S1 (shapeCast S1x256x2048 (mulf (nearMask D (mins D 8)) _) _) _ _ _ _) _) _) _ = _
  pointwise
  simp only [mask_apply]

theorem k1_minsum (v9 : FVec Ideal S3x2048 .f32) (v10 : FVec Ideal S256x3 .f32) (v132 : FVec Ideal S256x1 .f32) :
    k1_pay21 v9 v10 v132 = ∑ a, level (row (k1_pay19 v9 v10 v132) a) 0 := by
  have e : k1_pay20 v9 v10 v132 = mins (k1_pay19 v9 v10 v132) 0 := rfl
  unfold k1_pay21
  rw [e]
  pointwise
  simp only [mins_apply, Fin.sum_univ_one]

theorem k1_mask5 (v9 : FVec Ideal S3x2048 .f32) (v10 : FVec Ideal S256x3 .f32) (v132 : FVec Ideal S256x1 .f32) :
    k1_pay22 v9 v10 v132 = nearMask (k1_pay19 v9 v10 v132) (mins (k1_pay19 v9 v10 v132) 4) := rfl

/-- The weight of a point: over its distance where it is one of the five nearest, 0 elsewhere. -/
def wgt (r : Fin 2048 → EReal) (e : EReal) (j : Fin 2048) : EReal := Ideal.div (hit r 4 j) (r j + e)

theorem k1_wgt (D : FVec Ideal S256x2048 .f32) (e : EReal) (a : Fin 256) (j : Fin 2048) :
    k1_pay23 D (nearMask D (mins D 4)) e (ix2 a j) = wgt (row D a) e j := by
  unfold k1_pay23 wgt
  pointwise
  simp only [mask_apply]
  rfl

theorem k1_rnorm (D : FVec Ideal S256x2048 .f32) (e : EReal) (a : Fin 256) :
    k1_pay24 D (nearMask D (mins D 4)) e (ix2 a 0) = Ideal.div 1 (∑ j, wgt (row D a) e j) := by
  unfold k1_pay24
  pointwise
  simp only [k1_wgt]

/-- The squared difference of the interpolated curvature and the moved one, in one channel. -/
def curvTerm (r : Fin 2048 → EReal) (e : EReal) (c : Fin 2048 → EReal) (x : EReal) : EReal :=
  ((∑ j, wgt r e j * c j) * Ideal.div 1 (∑ j, wgt r e j) - x) * ((∑ j, wgt r e j * c j) * Ideal.div 1 (∑ j, wgt r e j) - x)

theorem k1_curv01 (v100 : FVec Ideal S256x3 .f32) (D : FVec Ideal S256x2048 .f32) (e : EReal) (v : Vec Ideal S1x3x2048 .f32) :
    k1_pay26 v100 D (nearMask D (mins D 4)) e v
      = (∑ a, curvTerm (row D a) e (fun j => v (ix3 0 0 j)) (v100 (ix2 a 0))) + ∑ a, curvTerm (row D a) e (fun j => v (ix3 0 1 j)) (v100 (ix2 a 1)) := by
  unfold k1_pay26 curvTerm
  pointwise [k1_pay25]
  simp only [k1_wgt, k1_rnorm, Fin.sum_univ_one]

theorem k1_curv2 (v100 : FVec Ideal S256x3 .f32) (D : FVec Ideal S256x2048 .f32) (e : EReal) (v : Vec Ideal S1x3x2048 .f32) (i : S1.Idx) :
    k1_pay27 v100 D (nearMask D (mins D 4)) e v i
      = ∑ a, curvTerm (row D a) e (fun j => v (ix3 0 2 j)) (v100 (ix2 a 2)) := by
  unfold k1_pay27 curvTerm
  pointwise [k1_pay25]
  simp only [k1_wgt, k1_rnorm, Fin.sum_univ_one]

theorem k1_colmin (D : FVec Ideal S256x2048 .f32) (j : Fin 2048) :
    k1_pay2 D (ix2 0 j) = Finset.univ.inf fun a => row D a j := by
  unfold k1_pay2 k1_pay1
  pointwise
  rw [inf_top]; rfl

theorem k1_colmin_later (D : FVec Ideal S256x2048 .f32) (z : Vec Ideal S1x2048 .f32) (j : Fin 2048) :
    k1_pay3 D z (ix2 0 j) = min (z (ix2 0 j)) (Finset.univ.inf fun a => row D a j) := by
  unfold k1_pay3 k1_pay1
  pointwise
  rw [inf_top]; rfl

theorem k1_total (r : BitVec 32) (s d c01 : EReal) (c2 : FVec Ideal S1 .f32) (y : Vec Ideal S1x1x1 .f32) (z : Vec Ideal S1x2048 .f32) (i : S1x1x1.Idx) :
    k1_pay4 r s d c01 c2 y z i
      = Scalar.select (Scalar.cmpi .eq r 7#32)
          (Scalar.select (Scalar.cmpi .eq r 0#32) 0 (y i) + (d + s + Ideal.ofBits .f32 0x3E99999A#32 * (c01 + c2 (ix1 0))) + ∑ j, z (ix2 0 j))
          (Scalar.select (Scalar.cmpi .eq r 0#32) 0 (y i) + (d + s + Ideal.ofBits .f32 0x3E99999A#32 * (c01 + c2 (ix1 0)))) := by
  unfold k1_pay4
  pointwise
  simp only [Fin.sum_univ_one]

/-- What a row block adds: its points' distances to the second cloud, the smoothness and the curvature terms. -/
def blockPart (x0 x1 : Vec Ideal S1x256x3 .f32) (x2 x3 x4 x5 : Vec Ideal S1x3x2048 .f32) : EReal :=
  let D11 := fun a : Fin 256 => sqDist (fun k => x0 (ix3 0 a k)) (fun j k => x2 (ix3 0 k j))
  let D12 := fun a : Fin 256 => sqDist (fun k => x0 (ix3 0 a k) + x1 (ix3 0 a k)) (fun j k => x4 (ix3 0 k j))
  let moved := fun (a : Fin 256) (k : Fin 3) => curvRow (D11 a) (fun j => x2 (ix3 0 k j) + x3 (ix3 0 k j)) (x0 (ix3 0 a k) + x1 (ix3 0 a k))
  let term := fun (k : Fin 3) (a : Fin 256) => curvTerm (D12 a) (Ideal.ofBits .f32 0x322BCC77#32) (fun j => x5 (ix3 0 k j)) (moved a k)
  (∑ a, level (D12 a) 0)
    + Ideal.div (∑ a, ∑ j, hit (D11 a) 8 j * gap (fun k => x1 (ix3 0 a k)) (fun k => x3 (ix3 0 k j))) (Ideal.ofBits .f32 0x41000000#32)
    + Ideal.ofBits .f32 0x3E99999A#32 * ((∑ a, term 0 a) + (∑ a, term 1 a) + ∑ a, term 2 a)

theorem lossOf_apply (r : BitVec 32) (x0 x1 : Vec Ideal S1x256x3 .f32) (x2 x3 x4 x5 : Vec Ideal S1x3x2048 .f32) (y : Vec Ideal S1x1x1 .f32) (z : Vec Ideal S1x2048 .f32) (i : S1x1x1.Idx) :
    Run.lossOf r x0 x1 x2 x3 x4 x5 y z i
      = Scalar.select (Scalar.cmpi .eq r 7#32)
          (Scalar.select (Scalar.cmpi .eq r 0#32) 0 (y i) + blockPart x0 x1 x2 x3 x4 x5 + ∑ j, z (ix2 0 j))
          (Scalar.select (Scalar.cmpi .eq r 0#32) 0 (y i) + blockPart x0 x1 x2 x3 x4 x5) := by
  unfold Run.lossOf
  rw [k1_total, k1_mins8, k1_smooth, k1_minsum, k1_mask5]
  have hD : k1_pay19 (k1_pay9 x4) (k1_pay10 x0 x1) (k1_pay18 (k1_pay10 x0 x1)) = Run.distOf x0 x1 x4 := rfl
  rw [hD, k1_curv01, k1_curv2]
  simp only [k1_pay16_eq, k1_dist, distOf_row]
  unfold blockPart
  pointwise [k1_pay5, k1_pay6, k1_pay7, k1_pay8, k1_pay10, k1_pay11]

end Cert.KernelIdeal.Block
-- ==== Proof.Grid.lean ====
/-
  The regions' blocks read at an index, over the arrays of the two clouds and the flow.
-/
module

public import proofs.«01_k».proof.Proof.IdealRun
public import proofs.«01_k».proof.Proof.KernelRead
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Cert.Cloud
open Idealize.ShloMosaic Idealize.ShloMosaic.TcCoe
open Idealize.ShloMosaic.Pipeline (Dat)

/-- Row `a` of row block `r`. -/
def rowOf (r : Fin 8) (a : Fin 256) : Fin 2048 := ⟨256 * r.val + a.val, by omega⟩

/-- The grid point of cloud `b`'s row block `r`. -/
def pt0 (b : Fin 16) (r : Fin 8) : Fin cfg0.N := ⟨8 * b.val + r.val, lt_of_lt_of_eq (by omega) N_0.symm⟩
def pt1 (b : Fin 16) (r : Fin 8) : Fin cfg1.N := ⟨8 * b.val + r.val, lt_of_lt_of_eq (by omega) N_1.symm⟩

theorem idx0_0 : ∀ t : Fin cfg0.N, win0_0.index t = ![t.val / 8, t.val % 8, 0] := (by decide +kernel : ∀ t : Fin grid0.N, win0_0.index t = ![t.val / 8, t.val % 8, 0])
theorem idx0_1 : ∀ t : Fin cfg0.N, win0_1.index t = ![t.val / 8, 0, 0] := (by decide +kernel : ∀ t : Fin grid0.N, win0_1.index t = ![t.val / 8, 0, 0])
theorem idx0_2 : ∀ t : Fin cfg0.N, win0_2.index t = ![t.val / 8, t.val % 8, 0] := (by decide +kernel : ∀ t : Fin grid0.N, win0_2.index t = ![t.val / 8, t.val % 8, 0])
theorem idx1_0 : ∀ t : Fin cfg1.N, win1_0.index t = ![t.val / 8, t.val % 8, 0] := (by decide +kernel : ∀ t : Fin grid1.N, win1_0.index t = ![t.val / 8, t.val % 8, 0])
theorem idx1_1 : ∀ t : Fin cfg1.N, win1_1.index t = ![t.val / 8, t.val % 8, 0] := (by decide +kernel : ∀ t : Fin grid1.N, win1_1.index t = ![t.val / 8, t.val % 8, 0])
theorem idx1_2 : ∀ t : Fin cfg1.N, win1_2.index t = ![t.val / 8, 0, 0] := (by decide +kernel : ∀ t : Fin grid1.N, win1_2.index t = ![t.val / 8, 0, 0])
theorem idx1_3 : ∀ t : Fin cfg1.N, win1_3.index t = ![t.val / 8, 0, 0] := (by decide +kernel : ∀ t : Fin grid1.N, win1_3.index t = ![t.val / 8, 0, 0])
theorem idx1_4 : ∀ t : Fin cfg1.N, win1_4.index t = ![t.val / 8, 0, 0] := (by decide +kernel : ∀ t : Fin grid1.N, win1_4.index t = ![t.val / 8, 0, 0])
theorem idx1_5 : ∀ t : Fin cfg1.N, win1_5.index t = ![t.val / 8, 0, 0] := (by decide +kernel : ∀ t : Fin grid1.N, win1_5.index t = ![t.val / 8, 0, 0])
theorem idx1_6 : ∀ t : Fin cfg1.N, win1_6.index t = ![t.val / 8, 0, 0] := (by decide +kernel : ∀ t : Fin grid1.N, win1_6.index t = ![t.val / 8, 0, 0])

variable (V : Vals (F := Ideal)) (c : Dev nD)

theorem blk0_0_apply (b : Fin 16) (r : Fin 8) (a : Fin 256) (k : Fin 3) :
    blk0 V c 0 (pt0 b r) (ix3 0 a k) = V c main_call0_v1 (ix3 b (rowOf r a) k) := by
  blk_ext [blk0, idx0_0, pt0, rowOf]
theorem blk0_1_apply (b : Fin 16) (r : Fin 8) (k : Fin 3) (j : Fin 2048) :
    blk0 V c 1 (pt0 b r) (ix3 0 k j) = V c main_call0_v4 (ix3 b k j) := by
  blk_ext [blk0, idx0_1, pt0]
theorem blk1_0_apply (b : Fin 16) (r : Fin 8) (a : Fin 256) (k : Fin 3) :
    blk1 V c 0 (pt1 b r) (ix3 0 a k) = V c main_call0_v0 (ix3 b (rowOf r a) k) := by
  blk_ext [blk1, idx1_0, pt1, rowOf]
theorem blk1_1_apply (b : Fin 16) (r : Fin 8) (a : Fin 256) (k : Fin 3) :
    blk1 V c 1 (pt1 b r) (ix3 0 a k) = V c main_call0_v2 (ix3 b (rowOf r a) k) := by
  blk_ext [blk1, idx1_1, pt1, rowOf]
theorem blk1_2_apply (b : Fin 16) (r : Fin 8) (k : Fin 3) (j : Fin 2048) :
    blk1 V c 2 (pt1 b r) (ix3 0 k j) = V c main_call0_v3 (ix3 b k j) := by
  blk_ext [blk1, idx1_2, pt1]
theorem blk1_3_apply (b : Fin 16) (r : Fin 8) (k : Fin 3) (j : Fin 2048) :
    blk1 V c 3 (pt1 b r) (ix3 0 k j) = V c main_call0_v5 (ix3 b k j) := by
  blk_ext [blk1, idx1_3, pt1]
theorem blk1_4_apply (b : Fin 16) (r : Fin 8) (k : Fin 3) (j : Fin 2048) :
    blk1 V c 4 (pt1 b r) (ix3 0 k j) = V c main_call0_v4 (ix3 b k j) := by
  blk_ext [blk1, idx1_4, pt1]
theorem blk1_5_apply (b : Fin 16) (r : Fin 8) (k : Fin 3) (j : Fin 2048) :
    blk1 V c 5 (pt1 b r) (ix3 0 k j) = V c main_call0_v7 (ix3 b k j) := by
  blk_ext [blk1, idx1_5, pt1]

end Cert.KernelIdeal.Run

end
-- ==== Proof.Select.lean ====
/-
  The reference's neighbour selection read at an index: the greatest of the negated distances and their positions are
  the row's order, and the points gathered at those positions.
-/
module

public import Idealize.ShloMosaic.PureOps
public import Idealize.ShloMosaic.PureOps.Ideal
public import Idealize.ShloMosaic.Lib.Pointwise
public import proofs.«01_k».proof.Proof.Nearest

@[expose] public section

set_option maxRecDepth 16384

noncomputable section

namespace Cert.Cloud

open Idealize.ShloMosaic

variable {k : ℕ}

theorem head_apply {α : Type} (x : (⟨3, ![16, 2048, 2048]⟩ : Shape).Idx → α) (hk : k ≤ 2048)
    (h : (⟨3, ![16, 2048, 2048]⟩ : Shape).Slices (fun _ => 0) ⟨3, ![16, 2048, k]⟩) (b : Fin 16) (a : Fin 2048) (q : Fin k) :
    extractStridedSlice ⟨3, ![16, 2048, k]⟩ (fun _ => 0) x h (ix3 b a q) = x (ix3 b a (q.castLE hk)) := by
  unfold extractStridedSlice
  congr 1
  funext c
  refine Fin.ext ?_
  match c with
  | ⟨0, _⟩ => exact Nat.zero_add _
  | ⟨1, _⟩ => exact Nat.zero_add _
  | ⟨2, _⟩ => exact Nat.zero_add _

theorem along_last (b : Fin 16) (a q j : Fin 2048) :
    (ix3 b a q : (⟨3, ![16, 2048, 2048]⟩ : Shape).Idx).along 2 j = ix3 b a j := by
  funext c
  match c with
  | ⟨0, _⟩ => rfl
  | ⟨1, _⟩ => rfl
  | ⟨2, _⟩ => rfl

/-- The position the stable sort of the negated distances puts at `q`. -/
theorem sorted_order (D : FVec Ideal ⟨3, ![16, 2048, 2048]⟩ .f32) (b : Fin 16) (a q : Fin 2048) :
    (sortedFrom (fun j j' : Fin 2048 => FloatOps.cmpfTotal (F := Ideal) (φ := .f32) .gt
      (Host.negf D ((ix3 b a q : (⟨3, ![16, 2048, 2048]⟩ : Shape).Idx).along 2 j))
      (Host.negf D ((ix3 b a q : (⟨3, ![16, 2048, 2048]⟩ : Shape).Idx).along 2 j')) == 1#1) q) = order (fun j => D (ix3 b a j)) q := by
  simp only [along_last]
  rfl

theorem topK_value (D : FVec Ideal ⟨3, ![16, 2048, 2048]⟩ .f32) (hk : k ≤ 2048)
    (h : (⟨3, ![16, 2048, 2048]⟩ : Shape).Slices (fun _ => 0) ⟨3, ![16, 2048, k]⟩) (b : Fin 16) (a : Fin 2048) (q : Fin k) :
    (Host.topK ⟨3, ![16, 2048, k]⟩ 2 (FloatOps.cmpfTotal .gt) (Host.negf D) h).1 (ix3 b a q)
      = -D (ix3 b a (near (fun j => D (ix3 b a j)) hk q)) := by
  unfold Host.topK
  dsimp only
  rw [head_apply _ hk]
  unfold Host.sort2
  rw [dif_pos (show 2 < (⟨3, ![16, 2048, 2048]⟩ : Shape).rank from by decide)]
  refine (congrArg (fun p : Fin 2048 => Host.negf D ((ix3 b a (q.castLE hk) : (⟨3, ![16, 2048, 2048]⟩ : Shape).Idx).along 2 p)) (sorted_order D b a (q.castLE hk))).trans ?_
  exact congrArg (Host.negf D) (along_last b a (q.castLE hk) (order (fun j => D (ix3 b a j)) (q.castLE hk)))

theorem sort_second (D : FVec Ideal ⟨3, ![16, 2048, 2048]⟩ .f32) (y : IVec ⟨3, ![16, 2048, 2048]⟩ 32) (b : Fin 16) (a q : Fin 2048) :
    (Host.sort2 ⟨3, ![16, 2048, 2048]⟩ 2 (fun l r => FloatOps.cmpfTotal (F := Ideal) (φ := .f32) .gt l.1 r.1) (Host.negf D) y).2 (ix3 b a q)
      = y (ix3 b a (order (fun j => D (ix3 b a j)) q)) := by
  unfold Host.sort2
  rw [dif_pos (show 2 < (⟨3, ![16, 2048, 2048]⟩ : Shape).rank from by decide)]
  refine (congrArg (fun p : Fin 2048 => y ((ix3 b a q : (⟨3, ![16, 2048, 2048]⟩ : Shape).Idx).along 2 p)) (sorted_order D b a q)).trans ?_
  exact congrArg y (along_last b a q (order (fun j => D (ix3 b a j)) q))

theorem topK_index (D : FVec Ideal ⟨3, ![16, 2048, 2048]⟩ .f32) (hk : k ≤ 2048)
    (h : (⟨3, ![16, 2048, 2048]⟩ : Shape).Slices (fun _ => 0) ⟨3, ![16, 2048, k]⟩) (b : Fin 16) (a : Fin 2048) (q : Fin k) :
    (Host.topK ⟨3, ![16, 2048, k]⟩ 2 (FloatOps.cmpfTotal .gt) (Host.negf D) h).2 (ix3 b a q)
      = BitVec.ofNat 32 (near (fun j => D (ix3 b a j)) hk q).val := by
  unfold Host.topK
  dsimp only
  rw [head_apply _ hk]
  rw [sort_second, dif_pos (show 2 < (⟨3, ![16, 2048, 2048]⟩ : Shape).rank from by decide)]
  unfold iotaInDim near
  rfl

/-! ## The gather -/

/-- The dimension numbers of a gather of whole points per cloud. -/
abbrev pointDims (k : ℕ) (wf : GatherDims.WF ⟨3, ![16, 2048, 3]⟩ ⟨4, ![16, 2048, k, 1]⟩ ⟨4, ![16, 2048, k, 3]⟩ [3] [1] [0] [1] [0] 3 ![1, 1, 3]) :
    GatherDims ⟨3, ![16, 2048, 3]⟩ ⟨4, ![16, 2048, k, 1]⟩ ⟨4, ![16, 2048, k, 3]⟩ where
  offsetDims := [3]
  collapsedSliceDims := [1]
  operandBatchingDims := [0]
  startIndicesBatchingDims := [0]
  startIndexMap := [1]
  indexVectorDim := 3
  sliceSizes := ![1, 1, 3]
  wf := wf

theorem gather_point {α : Type} (wf : GatherDims.WF ⟨3, ![16, 2048, 3]⟩ ⟨4, ![16, 2048, k, 1]⟩ ⟨4, ![16, 2048, k, 3]⟩ [3] [1] [0] [1] [0] 3 ![1, 1, 3])
    (x : (⟨3, ![16, 2048, 3]⟩ : Shape).Idx → α) (idx : IVec ⟨4, ![16, 2048, k, 1]⟩ 32) (b : Fin 16) (a : Fin 2048) (q : Fin k) (c : Fin 3)
    (p : Fin 2048) (hp : idx (ix4 b a q 0) = BitVec.ofNat 32 p.val) :
    Host.gather (pointDims k wf) x idx (ix4 b a q c) = x (ix3 b p c) := by
  unfold Host.gather
  congr 1
  funext d
  refine Fin.ext ?_
  show (pointDims k wf).start (ix4 b a q c) idx d + (pointDims k wf).batchCoord (ix4 b a q c) d + (pointDims k wf).offCoord (ix4 b a q c) d = _
  have h012 : d = 0 ∨ d = 1 ∨ d = 2 := by
    match d with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pointDims k wf).startIndexMap from List.mem_singleton.mpr rfl)]
    have hsi : (pointDims k wf).siIdx (ix4 b a q c) ⟨List.idxOf (1 : Fin 3) (pointDims k wf).startIndexMap,
        List.idxOf_lt_length_iff.2 (List.mem_singleton.mpr rfl)⟩ = ix4 b a q 0 := by
      funext e; refine Fin.ext ?_
      match e with
      | ⟨0, _⟩ => rfl
      | ⟨1, _⟩ => rfl
      | ⟨2, _⟩ => rfl
      | ⟨3, _⟩ => rfl
    rw [hsi, hp]
    have hb : (BitVec.ofNat 32 p.val).toInt.toNat = p.val := by
      have := p.isLt
      rw [BitVec.toInt_eq_toNat_cond, BitVec.toNat_ofNat, Nat.mod_eq_of_lt (by omega), if_pos (by omega)]
      rfl
    rw [hb]
    have := p.isLt
    exact Nat.min_eq_left (by change p.val ≤ 2047; omega)
  · rw [GatherDims.batchCoord_eq_zero _ _ _ (fun h => by simp at h)]
    unfold GatherDims.start
    rw [dif_neg (fun h => by simp at h)]
    unfold GatherDims.offCoord
    rw [dif_pos ((GatherDims.mem_sKept _ _).mpr ⟨fun h => by simp at h, fun h => by simp at h⟩)]
    simp only [Nat.zero_add]
    rfl

/-- A position is not negative, so the wrapped one is itself. -/
theorem wrap_position (p : Fin 2048) :
    Scalar.select (IntOp.cmpi .slt (BitVec.ofNat 32 p.val) 0#32) (IntOp.addi (BitVec.ofNat 32 p.val) 2048#32) (BitVec.ofNat 32 p.val) = BitVec.ofNat 32 p.val := by
  have h : IntOp.cmpi .slt (BitVec.ofNat 32 p.val) 0#32 = 0#1 := by
    have := p.isLt
    have e : (BitVec.ofNat 32 p.val).slt 0#32 = false := by
      rw [BitVec.slt, BitVec.toInt_eq_toNat_cond, BitVec.toNat_ofNat, Nat.mod_eq_of_lt (by omega), if_pos (by omega)]
      simp
    show BitVec.ofBool ((BitVec.ofNat 32 p.val).slt 0#32) = 0#1
    rw [e]; rfl
  rw [h]; rfl

end Cert.Cloud
-- ==== Proof.RefDist.lean ====
/-
  The reference's arrays read at an index: the distances, the sums over the nearest points, and the losses per cloud.
-/
module

public import proofs.«01_k».proof.Proof.Gen.ReferenceIdeal.Read
public import proofs.«01_k».proof.Proof.Select

@[expose] public section

set_option maxRecDepth 16384

noncomputable section

namespace Cert.ReferenceIdeal.Cloud

open Cert.ReferenceIdeal Cert.ReferenceIdeal.Gen Cert.ReferenceIdeal.Read Cert.Cloud
open Idealize.ShloMosaic

/-- An argument. -/
abbrev Arg : Type := (⟨S4x4x2048x3, .f32⟩ : BufTy).Contents (Elt Ideal)

variable (x0 x1 x2 : Arg)

/-- A point of the first cloud, of the second cloud, its flow and the point moved by it. -/
def p1 (b : Fin 16) (a : Fin 2048) (k : Fin 3) : EReal := val_main_v0 (F := Ideal) x0 (ix3 b a k)
def p2 (b : Fin 16) (a : Fin 2048) (k : Fin 3) : EReal := val_main_v1 (F := Ideal) x1 (ix3 b a k)
def fl (b : Fin 16) (a : Fin 2048) (k : Fin 3) : EReal := val_main_v2 (F := Ideal) x2 (ix3 b a k)
def wp (b : Fin 16) (a : Fin 2048) (k : Fin 3) : EReal := val_main_v3 (F := Ideal) x0 x2 (ix3 b a k)

theorem wp_eq (b : Fin 16) (a : Fin 2048) (k : Fin 3) : wp x0 x2 b a k = p1 x0 b a k + fl x2 b a k := rfl

theorem dist22 (b : Fin 16) (a j : Fin 2048) :
    val_main_v17 (F := Ideal) x1 (ix3 b a j) = sqDist (p2 x1 b a) (p2 x1 b) j := by
  unfold sqDist p2
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]

theorem dist11 (b : Fin 16) (a j : Fin 2048) :
    val_main_v46 (F := Ideal) x0 (ix3 b a j) = sqDist (p1 x0 b a) (p1 x0 b) j := by
  unfold sqDist p1
  pointwise [val_main_v33, val_main_v34, val_main_v35, val_main_v36, val_main_v37, val_main_v38, val_main_v39, val_main_v40, val_main_v41, val_main_v42, val_main_v43, val_main_v44, val_main_v45, val_main_v46, val_main_cst_5, val_main_cst_6, val_main_cst_7]

theorem dist12 (b : Fin 16) (a j : Fin 2048) :
    val_main_v75 (F := Ideal) x0 x1 x2 (ix3 b a j) = sqDist (wp x0 x2 b a) (p2 x1 b) j := by
  unfold sqDist wp p2
  pointwise [val_main_v62, val_main_v63, val_main_v64, val_main_v65, val_main_v66, val_main_v67, val_main_v68, val_main_v69, val_main_v70, val_main_v71, val_main_v72, val_main_v73, val_main_v74, val_main_v75, val_main_cst_14, val_main_cst_15, val_main_cst_16]

theorem dist11' (b : Fin 16) (a j : Fin 2048) :
    val_main_v122 (F := Ideal) x0 (ix3 b a j) = sqDist (p1 x0 b a) (p1 x0 b) j := by
  unfold sqDist p1
  pointwise [val_main_v109, val_main_v110, val_main_v111, val_main_v112, val_main_v113, val_main_v114, val_main_v115, val_main_v116, val_main_v117, val_main_v118, val_main_v119, val_main_v120, val_main_v121, val_main_v122, val_main_cst_33, val_main_cst_34, val_main_cst_35]

/-! ## The gathered points -/

/-- The `q`-th nearest of `k`: of the second cloud, of the first one, and of the second one to a moved point. -/
def n22 (k : ℕ) (hk : k ≤ 2048) (b : Fin 16) (a : Fin 2048) (q : Fin k) : Fin 2048 := near (sqDist (p2 x1 b a) (p2 x1 b)) hk q
def n11 (k : ℕ) (hk : k ≤ 2048) (b : Fin 16) (a : Fin 2048) (q : Fin k) : Fin 2048 := near (sqDist (p1 x0 b a) (p1 x0 b)) hk q
def n12 (k : ℕ) (hk : k ≤ 2048) (b : Fin 16) (a : Fin 2048) (q : Fin k) : Fin 2048 := near (sqDist (wp x0 x2 b a) (p2 x1 b)) hk q

theorem index22 (b : Fin 16) (a : Fin 2048) (q : Fin 10) :
    val_main_indices (F := Ideal) x1 (ix3 b a q) = BitVec.ofNat 32 (n22 x1 10 (by omega) b a q).val := by
  unfold val_main_indices val_main_v18 n22
  rw [topK_index _ (by omega)]
  simp only [dist22]

theorem index11 (b : Fin 16) (a : Fin 2048) (q : Fin 10) :
    val_main_indices_9 (F := Ideal) x0 (ix3 b a q) = BitVec.ofNat 32 (n11 x0 10 (by omega) b a q).val := by
  unfold val_main_indices_9 val_main_v47 n11
  rw [topK_index _ (by omega)]
  simp only [dist11]

theorem index12 (b : Fin 16) (a : Fin 2048) (q : Fin 5) :
    val_main_indices_18 (F := Ideal) x0 x1 x2 (ix3 b a q) = BitVec.ofNat 32 (n12 x0 x1 x2 5 (by omega) b a q).val := by
  unfold val_main_indices_18 val_main_v76 n12
  rw [topK_index _ (by omega)]
  simp only [dist12]

theorem value12 (b : Fin 16) (a : Fin 2048) (q : Fin 5) :
    val_main_values_17 (F := Ideal) x0 x1 x2 (ix3 b a q) = -sqDist (wp x0 x2 b a) (p2 x1 b) (n12 x0 x1 x2 5 (by omega) b a q) := by
  unfold val_main_values_17 val_main_v76 n12
  rw [topK_value _ (by omega)]
  simp only [dist12]

theorem index11' (b : Fin 16) (a : Fin 2048) (q : Fin 9) :
    val_main_indices_37 (F := Ideal) x0 (ix3 b a q) = BitVec.ofNat 32 (n11 x0 9 (by omega) b a q).val := by
  unfold val_main_indices_37 val_main_v123 n11
  rw [topK_index _ (by omega)]
  simp only [dist11']

theorem start22 (b : Fin 16) (a : Fin 2048) (q : Fin 10) :
    val_main_v25 (F := Ideal) x1 (ix4 b a q 0) = BitVec.ofNat 32 (n22 x1 10 (by omega) b a q).val := by
  pointwise [val_main_v20, val_main_v21, val_main_v22, val_main_v23, val_main_v24, val_main_v25, val_main_c, val_main_c_2]
  rw [index22]
  exact wrap_position _

theorem start11 (b : Fin 16) (a : Fin 2048) (q : Fin 10) :
    val_main_v54 (F := Ideal) x0 (ix4 b a q 0) = BitVec.ofNat 32 (n11 x0 10 (by omega) b a q).val := by
  pointwise [val_main_v49, val_main_v50, val_main_v51, val_main_v52, val_main_v53, val_main_v54, val_main_c_10, val_main_c_11]
  rw [index11]
  exact wrap_position _

theorem start12 (b : Fin 16) (a : Fin 2048) (q : Fin 5) :
    val_main_v96 (F := Ideal) x0 x1 x2 (ix4 b a q 0) = BitVec.ofNat 32 (n12 x0 x1 x2 5 (by omega) b a q).val := by
  pointwise [val_main_v91, val_main_v92, val_main_v93, val_main_v94, val_main_v95, val_main_v96, val_main_c_24, val_main_c_25]
  rw [index12]
  exact wrap_position _

theorem start11' (b : Fin 16) (a : Fin 2048) (q : Fin 9) :
    val_main_v130 (F := Ideal) x0 (ix4 b a q 0) = BitVec.ofNat 32 (n11 x0 9 (by omega) b a q).val := by
  pointwise [val_main_v125, val_main_v126, val_main_v127, val_main_v128, val_main_v129, val_main_v130, val_main_c_38, val_main_c_39]
  rw [index11']
  exact wrap_position _

theorem gather22 (b : Fin 16) (a : Fin 2048) (q : Fin 10) (c : Fin 3) :
    val_main_v26 (F := Ideal) x1 (ix4 b a q c) = p2 x1 b (n22 x1 10 (by omega) b a q) c := by
  unfold val_main_v26
  exact gather_point _ _ _ b a q c _ (start22 x1 b a q)

theorem gather11 (b : Fin 16) (a : Fin 2048) (q : Fin 10) (c : Fin 3) :
    val_main_v55 (F := Ideal) x0 x2 (ix4 b a q c) = wp x0 x2 b (n11 x0 10 (by omega) b a q) c := by
  unfold val_main_v55
  exact gather_point _ _ _ b a q c _ (start11 x0 b a q)

theorem gather12 (b : Fin 16) (a : Fin 2048) (q : Fin 5) (c : Fin 3) :
    val_main_v97 (F := Ideal) x0 x1 x2 (ix4 b a q c) = val_main_v32 (F := Ideal) x1 (ix3 b (n12 x0 x1 x2 5 (by omega) b a q) c) := by
  unfold val_main_v97
  exact gather_point _ _ _ b a q c _ (start12 x0 x1 x2 b a q)

theorem gather11' (b : Fin 16) (a : Fin 2048) (q : Fin 9) (c : Fin 3) :
    val_main_v131 (F := Ideal) x0 x2 (ix4 b a q c) = fl x2 b (n11 x0 9 (by omega) b a q) c := by
  unfold val_main_v131
  exact gather_point _ _ _ b a q c _ (start11' x0 b a q)

/-! ## The losses per cloud -/

theorem curvature2 (b : Fin 16) (a : Fin 2048) (c : Fin 3) :
    val_main_v32 (F := Ideal) x1 (ix3 b a c)
      = Ideal.div (∑ q, (p2 x1 b (n22 x1 10 (by omega) b a q) c - p2 x1 b a c)) (Ideal.ofBits .f32 0x41100000#32) := by
  unfold p2
  pointwise [val_main_v32, val_main_v31, val_main_v30, val_main_v29, val_main_v28, val_main_v27, val_main_cst_3, val_main_cst_4]
  simp only [gather22]
  rfl

theorem moved (b : Fin 16) (a : Fin 2048) (c : Fin 3) :
    val_main_v61 (F := Ideal) x0 x2 (ix3 b a c)
      = Ideal.div (∑ q, (wp x0 x2 b (n11 x0 10 (by omega) b a q) c - wp x0 x2 b a c)) (Ideal.ofBits .f32 0x41100000#32) := by
  unfold wp
  pointwise [val_main_v61, val_main_v60, val_main_v59, val_main_v58, val_main_v57, val_main_v56, val_main_cst_12, val_main_cst_13]
  simp only [gather11]
  rfl

/-- The distance of the `q`-th nearest, kept off 0. -/
def off12 (b : Fin 16) (a : Fin 2048) (q : Fin 5) : EReal :=
  sqDist (wp x0 x2 b a) (p2 x1 b) (n12 x0 x1 x2 5 (by omega) b a q) + Ideal.ofBits .f32 0x322BCC77#32

theorem off12_eq (b : Fin 16) (a : Fin 2048) (q : Fin 5) : val_main_v79 (F := Ideal) x0 x1 x2 (ix3 b a q) = off12 x0 x1 x2 b a q := by
  unfold off12
  pointwise [val_main_v79, val_main_v78, val_main_v77, val_main_cst_19]
  rw [value12, neg_neg]

theorem off12_eq' (b : Fin 16) (a : Fin 2048) (q : Fin 5) : val_main_v85 (F := Ideal) x0 x1 x2 (ix3 b a q) = off12 x0 x1 x2 b a q := by
  unfold off12
  pointwise [val_main_v85, val_main_v84, val_main_v77, val_main_cst_22]
  rw [value12, neg_neg]

theorem inter (b : Fin 16) (a : Fin 2048) (c : Fin 3) :
    val_main_v100 (F := Ideal) x0 x1 x2 (ix3 b a c)
      = ∑ q, Ideal.div (Ideal.div 1 (off12 x0 x1 x2 b a q)) (∑ q', Ideal.div 1 (off12 x0 x1 x2 b a q'))
          * val_main_v32 (F := Ideal) x1 (ix3 b (n12 x0 x1 x2 5 (by omega) b a q) c) := by
  pointwise [val_main_v100, val_main_v99, val_main_v98, val_main_v90, val_main_v89, val_main_v88, val_main_v87, val_main_v86, val_main_v83, val_main_v82, val_main_v81, val_main_v80, val_main_cst_26, val_main_cst_23, val_main_cst_21, val_main_cst_20]
  simp only [off12_eq, off12_eq', gather12]

theorem curvatureLoss (b : Fin 16) :
    val_main_v104 (F := Ideal) x0 x1 x2 (ix1 b)
      = ∑ a, ∑ c, (val_main_v100 (F := Ideal) x0 x1 x2 (ix3 b a c) - val_main_v61 (F := Ideal) x0 x2 (ix3 b a c))
          * (val_main_v100 (F := Ideal) x0 x1 x2 (ix3 b a c) - val_main_v61 (F := Ideal) x0 x2 (ix3 b a c)) := by
  pointwise [val_main_v104, val_main_v103, val_main_v102, val_main_v101, val_main_cst_27, val_main_cst_28]

theorem fold_min {n : ℕ} (f : Fin n → EReal) : Finset.fold min (Ideal.ofBits .f32 0x7F800000#32) f Finset.univ = Finset.univ.inf f := by
  rw [show Ideal.ofBits .f32 0x7F800000#32 = ⊤ by simp [Ideal.ofBits, Ideal.ieee]]
  rfl

theorem chamfer1 (b : Fin 16) :
    val_main_v106 (F := Ideal) x0 x1 x2 (ix1 b) = ∑ a, Finset.univ.inf (sqDist (wp x0 x2 b a) (p2 x1 b)) := by
  pointwise [val_main_v106, val_main_v105, val_main_cst_29, val_main_cst_30]
  simp only [dist12, fold_min]

theorem chamfer2 (b : Fin 16) :
    val_main_v108 (F := Ideal) x0 x1 x2 (ix1 b) = ∑ j, Finset.univ.inf fun a => sqDist (wp x0 x2 b a) (p2 x1 b) j := by
  pointwise [val_main_v108, val_main_v107, val_main_cst_31, val_main_cst_32]
  simp only [dist12, fold_min]

theorem smoothLoss (b : Fin 16) :
    val_main_v143 (F := Ideal) x0 x2 (ix1 b)
      = ∑ a, Ideal.div (∑ q, Ideal.sqrt (max (∑ c, (fl x2 b (n11 x0 9 (by omega) b a q) c - fl x2 b a c) * (fl x2 b (n11 x0 9 (by omega) b a q) c - fl x2 b a c)) (Ideal.ofBits .f32 0x179ABE15#32)))
          (Ideal.ofBits .f32 0x41000000#32) := by
  pointwise [val_main_v132, val_main_v133, val_main_v134, val_main_v135, val_main_v136, val_main_v137, val_main_v138, val_main_v139, val_main_v140, val_main_v141, val_main_v142, val_main_v143, val_main_cst_40, val_main_cst_41, val_main_cst_42, val_main_cst_43, val_main_cst_44]
  simp only [gather11']
  rfl

/-! ## The weighted sum over the scales -/

/-- The cloud at position `b` of scale `s`. -/
def place : Fin 4 → Fin 4 → Fin 16
  | 0, b => ⟨b.val, by omega⟩
  | 1, b => ⟨4 + b.val, by omega⟩
  | 2, b => ⟨8 + b.val, by omega⟩
  | 3, b => ⟨12 + b.val, by omega⟩

/-- The mean over a scale's four clouds. -/
def mean (f : Fin 16 → EReal) (s : Fin 4) : EReal := Ideal.div (∑ b, f (place s b)) (Ideal.ofBits .f32 0x40800000#32)

/-- The weighted sum over the scales. -/
def weigh (f : Fin 4 → EReal) : EReal :=
  Ideal.ofBits .f32 0x3CA3D70A#32 * f 0 + Ideal.ofBits .f32 0x3D23D70A#32 * f 1 + Ideal.ofBits .f32 0x3DA3D70A#32 * f 2 + Ideal.ofBits .f32 0x3E23D70A#32 * f 3

theorem result (i : S_.Idx) :
    val_main_v213 (F := Ideal) x0 x1 x2 i
      = weigh (fun s => mean (fun b => val_main_v106 (F := Ideal) x0 x1 x2 (ix1 b)) s + mean (fun b => val_main_v108 (F := Ideal) x0 x1 x2 (ix1 b)) s)
        + weigh (mean fun b => val_main_v143 (F := Ideal) x0 x2 (ix1 b))
        + Ideal.ofBits .f32 0x3E99999A#32 * weigh (mean fun b => val_main_v104 (F := Ideal) x0 x1 x2 (ix1 b)) := by
  pointwise [val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_cst_45, val_main_cst_46, val_main_cst_47, val_main_cst_48, val_main_cst_49, val_main_cst_50, val_main_cst_51, val_main_cst_52, val_main_cst_53, val_main_cst_54, val_main_cst_55, val_main_cst_56, val_main_cst_57, val_main_cst_58, val_main_cst_59, val_main_cst_60, val_main_cst_61, val_main_cst_62, val_main_cst_63, val_main_cst_64, val_main_cst_65, val_main_cst_66, val_main_cst_67, val_main_cst_68, val_main_cst_69, val_main_cst_70]
  rfl

end Cert.ReferenceIdeal.Cloud
-- ==== Proof.KernelLoss.lean ====
/-
  The kernel's loss per cloud: the arrays the regions are entered from, the curvature array, the column minima and the
  partial sums over the eight row blocks.
-/
module

public import proofs.«01_k».proof.Proof.Grid
public import proofs.«01_k».proof.Proof.RefDist

@[expose] public section

set_option maxRecDepth 16384

noncomputable section

namespace Cert.KernelIdeal.Run

open Cert.KernelIdeal Cert.KernelIdeal.Gen Cert.KernelIdeal.Block Cert.Cloud
open Cert.ReferenceIdeal.Cloud (Arg p1 p2 fl wp)
open Idealize.ShloMosaic Idealize.ShloMosaic.TcCoe
open Idealize.ShloMosaic.Pipeline (Dat)

variable (m : (ℓ : Loc nD τ sig) → Buf (Elt Ideal) ℓ) (c : Dev nD)

/-- The arguments. -/
def A0 : Arg := m ((c.tc : Thread nD τ).loc main_arg0)
def A1 : Arg := m ((c.tc : Thread nD τ).loc main_arg1)
def A2 : Arg := m ((c.tc : Thread nD τ).loc main_arg2)

/-! ## The arrays the regions are entered from -/

theorem e1_v0 (b : Fin 16) (i : Fin 2048) (k : Fin 3) : V1 m c (Proc.devRef .tc main_call0_v0) (ix3 b i k) = p1 (A0 m c) b i k := by
  unfold V1; entry_read; rfl
theorem e1_v1 (b : Fin 16) (i : Fin 2048) (k : Fin 3) : V1 m c (Proc.devRef .tc main_call0_v1) (ix3 b i k) = p2 (A1 m c) b i k := by
  unfold V1; entry_read; rfl
theorem e1_v2 (b : Fin 16) (i : Fin 2048) (k : Fin 3) : V1 m c (Proc.devRef .tc main_call0_v2) (ix3 b i k) = fl (A2 m c) b i k := by
  unfold V1; entry_read; rfl
theorem e1_v3 (b : Fin 16) (k : Fin 3) (i : Fin 2048) : V1 m c (Proc.devRef .tc main_call0_v3) (ix3 b k i) = p1 (A0 m c) b i k := by
  have e : V1 m c (Proc.devRef .tc main_call0_v3) = transpose S16x3x2048 [0, 2, 1] (V1 m c (Proc.devRef .tc main_call0_v0)) transposes_S16x2048x3_S16x3x2048_0_2_1 := rfl
  rw [e]
  pointwise
  exact e1_v0 m c b i k
theorem e1_v4 (b : Fin 16) (k : Fin 3) (i : Fin 2048) : V1 m c (Proc.devRef .tc main_call0_v4) (ix3 b k i) = p2 (A1 m c) b i k := by
  have e : V1 m c (Proc.devRef .tc main_call0_v4) = transpose S16x3x2048 [0, 2, 1] (V1 m c (Proc.devRef .tc main_call0_v1)) transposes_S16x2048x3_S16x3x2048_0_2_1 := rfl
  rw [e]
  pointwise
  exact e1_v1 m c b i k
theorem e1_v5 (b : Fin 16) (k : Fin 3) (i : Fin 2048) : V1 m c (Proc.devRef .tc main_call0_v5) (ix3 b k i) = fl (A2 m c) b i k := by
  have e : V1 m c (Proc.devRef .tc main_call0_v5) = transpose S16x3x2048 [0, 2, 1] (V1 m c (Proc.devRef .tc main_call0_v2)) transposes_S16x2048x3_S16x3x2048_0_2_1 := rfl
  rw [e]
  pointwise
  exact e1_v2 m c b i k

theorem e3_same (r : Ref sig .tc) (h : r ∉ hostOps1_W) (h' : r ≠ main_call0_v6) : entry1 m c r = V1 m c (Proc.devRef .tc r) :=
  (entry1_eq m c r).trans ((V3_of m (outs m) c r h).trans (V2_ne m c r h'))

theorem e3_v0 (b : Fin 16) (k : Fin 3) (i : Fin 2048) : entry1 m c main_call0_v0 (ix3 b i k) = p1 (A0 m c) b i k :=
  (congrFun (e3_same m c main_call0_v0 (by decide) (by decide)) _).trans (e1_v0 m c b i k)
theorem e3_v2 (b : Fin 16) (k : Fin 3) (i : Fin 2048) : entry1 m c main_call0_v2 (ix3 b i k) = fl (A2 m c) b i k :=
  (congrFun (e3_same m c main_call0_v2 (by decide) (by decide)) _).trans (e1_v2 m c b i k)
theorem e3_v3 (b : Fin 16) (k : Fin 3) (i : Fin 2048) : entry1 m c main_call0_v3 (ix3 b k i) = p1 (A0 m c) b i k :=
  (congrFun (e3_same m c main_call0_v3 (by decide) (by decide)) _).trans (e1_v3 m c b k i)
theorem e3_v4 (b : Fin 16) (k : Fin 3) (i : Fin 2048) : entry1 m c main_call0_v4 (ix3 b k i) = p2 (A1 m c) b i k :=
  (congrFun (e3_same m c main_call0_v4 (by decide) (by decide)) _).trans (e1_v4 m c b k i)
theorem e3_v5 (b : Fin 16) (k : Fin 3) (i : Fin 2048) : entry1 m c main_call0_v5 (ix3 b k i) = fl (A2 m c) b i k :=
  (congrFun (e3_same m c main_call0_v5 (by decide) (by decide)) _).trans (e1_v5 m c b k i)

theorem e3_v7 (b : Fin 16) (k : Fin 3) (i : Fin 2048) : entry1 m c main_call0_v7 (ix3 b k i) = curvOut m c (ix3 b i k) := by
  rw [entry1_eq]
  have e : V3 m (outs m) c (Proc.devRef .tc main_call0_v7) = transpose S16x3x2048 [0, 2, 1] (V2 m (outs m) c (Proc.devRef .tc main_call0_v6)) transposes_S16x2048x3_S16x3x2048_0_2_1 := rfl
  rw [e, V2_at]
  pointwise

/-! ## The curvature array -/

/-- The second cloud's curvature in one channel. -/
def curv2 (P : Fin 2048 → Fin 3 → EReal) (i : Fin 2048) (k : Fin 3) : EReal := curvRow (sqDist (P i) P) (fun j => P j k) (P i k)

theorem cover_rows (t : Fin cfg0.N) : ∃ b r, t = pt0 b r := by
  have h : t.val < 128 := lt_of_lt_of_eq t.isLt N_0
  exact ⟨⟨t.val / 8, by omega⟩, ⟨t.val % 8, by omega⟩, Fin.ext (by simp only [pt0]; omega)⟩
theorem cover_rows1 (t : Fin cfg1.N) : ∃ b r, t = pt1 b r := by
  have h : t.val < 128 := lt_of_lt_of_eq t.isLt N_1
  exact ⟨⟨t.val / 8, by omega⟩, ⟨t.val % 8, by omega⟩, Fin.ext (by simp only [pt1]; omega)⟩

theorem curv_block (b : Fin 16) (r : Fin 8) (a : Fin 256) (k : Fin 3) :
    (dat0 (entry0 m) c).after 2 (pt0 b r) (ix3 0 a k) = curv2 (p2 (A1 m c) b) (rowOf r a) k := by
  rw [after0_2, curvOf_apply]
  simp only [blk0_0_apply, blk0_1_apply, entry0, e1_v1, e1_v4]
  rfl

theorem curvOut_eq : curvOut m c = fun i : S16x2048x3.Idx => curv2 (p2 (A1 m c) (i 0)) (i 1) (i 2) := by
  unfold curvOut
  refine (dat0 (entry0 m) c).arrAt_eq_of_covers 2 _ (by decide +kernel) fun t hf y => ?_
  obtain ⟨b, r, rfl⟩ := cover_rows t
  obtain ⟨a, k, rfl⟩ : ∃ (a : Fin 256) (k : Fin 3), y = (ix3 0 a k : S1x256x3.Idx) := ⟨y 1, y 2, by
    funext d
    match d with
    | ⟨0, _⟩ => exact Subsingleton.elim (α := Fin 1) _ _
    | ⟨1, _⟩ => rfl
    | ⟨2, _⟩ => rfl⟩
  have he : ((cfg0.win 2).blk (pt0 b r)).view.emb (ix3 0 a k : S1x256x3.Idx) = (ix3 b (rowOf r a) k : S16x2048x3.Idx) := by
    blk_ext [idx0_2, pt0, rowOf]
  rw [he]
  exact curv_block m c b r a k

theorem curvOut_apply (b : Fin 16) (i : Fin 2048) (k : Fin 3) : curvOut m c (ix3 b i k) = curv2 (p2 (A1 m c) b) i k := by
  rw [curvOut_eq]
  rfl

/-! ## The losses -/

section
variable (P1 P2 FL : Fin 2048 → Fin 3 → EReal)

/-- The moved points. -/
def moved (i : Fin 2048) (k : Fin 3) : EReal := P1 i k + FL i k

/-- A row block's part of a cloud's loss. -/
def rowPart (r : Fin 8) : EReal :=
  let D11 := fun a : Fin 256 => sqDist (P1 (rowOf r a)) P1
  let D12 := fun a : Fin 256 => sqDist (moved P1 FL (rowOf r a)) P2
  let term := fun (k : Fin 3) (a : Fin 256) => curvTerm (D12 a) (Ideal.ofBits .f32 0x322BCC77#32) (fun j => curv2 P2 j k)
    (curvRow (D11 a) (fun j => moved P1 FL j k) (moved P1 FL (rowOf r a) k))
  (∑ a, level (D12 a) 0)
    + Ideal.div (∑ a, ∑ j, hit (D11 a) 8 j * gap (FL (rowOf r a)) (FL j)) (Ideal.ofBits .f32 0x41000000#32)
    + Ideal.ofBits .f32 0x3E99999A#32 * ((∑ a, term 0 a) + (∑ a, term 1 a) + ∑ a, term 2 a)

/-- A cloud's loss. -/
def cloudLoss : EReal := (∑ r, rowPart P1 P2 FL r) + ∑ j, Finset.univ.inf fun i => sqDist (moved P1 FL i) P2 j
end

/-- The block part at a point. -/
theorem part_eq (b : Fin 16) (r : Fin 8) :
    blockPart (blk1 (entry1 m) c 0 (pt1 b r)) (blk1 (entry1 m) c 1 (pt1 b r)) (blk1 (entry1 m) c 2 (pt1 b r)) (blk1 (entry1 m) c 3 (pt1 b r))
        (blk1 (entry1 m) c 4 (pt1 b r)) (blk1 (entry1 m) c 5 (pt1 b r))
      = rowPart (p1 (A0 m c) b) (p2 (A1 m c) b) (fl (A2 m c) b) r := by
  unfold blockPart rowPart moved
  simp only [blk1_0_apply, blk1_1_apply, blk1_2_apply, blk1_3_apply, blk1_4_apply, blk1_5_apply, e3_v7, curvOut_apply,
    e3_v0, e3_v2, e3_v3, e3_v4, e3_v5]

theorem dist_eq (b : Fin 16) (r : Fin 8) (a : Fin 256) (j : Fin 2048) :
    row (dist1 (entry1 m) c (pt1 b r)) a j = sqDist (moved (p1 (A0 m c) b) (fl (A2 m c) b) (rowOf r a)) (p2 (A1 m c) b) j := by
  unfold dist1
  rw [distOf_row]
  unfold moved
  simp only [blk1_0_apply, blk1_1_apply, blk1_4_apply, e3_v0, e3_v2, e3_v4]

theorem mod_pt (b : Fin 16) (r : Fin 8) : (pt1 b r).val % 8 = r.val := by simp only [pt1]; omega

theorem col_le (b : Fin 16) (j : Fin 2048) (z : EReal) : ∀ (n : ℕ) (h : n < 8),
    z ≤ colAt (entry1 m) c (pt1 b ⟨n, h⟩).val (pt1 b ⟨n, h⟩).isLt (ix2 0 j)
      ↔ ∀ (r : Fin 8) (a : Fin 256), r.val ≤ n → z ≤ sqDist (moved (p1 (A0 m c) b) (fl (A2 m c) b) (rowOf r a)) (p2 (A1 m c) b) j
  | 0, h => by
    rw [colAt_first _ _ _ (mod_pt b ⟨0, h⟩), k1_colmin]
    simp only [Finset.le_inf_iff, Finset.mem_univ, true_implies, dist_eq]
    constructor
    · intro H r a hr
      obtain rfl : r = ⟨0, h⟩ := Fin.ext (by simpa using hr)
      exact H a
    · intro H a; exact H _ a (Nat.le_refl _)
  | n + 1, h => by
    have ih := col_le b j z n (by omega)
    rw [colAt_later _ _ _ (by rw [mod_pt]; exact Nat.succ_ne_zero n), k1_colmin_later, le_min_iff]
    have e : (pt1 b ⟨n + 1, h⟩).val - 1 = (pt1 b ⟨n, by omega⟩).val := by simp only [pt1]; omega
    simp only [e]
    rw [ih]
    simp only [Finset.le_inf_iff, Finset.mem_univ, true_implies, dist_eq]
    constructor
    · rintro ⟨H, H'⟩ r a hr
      by_cases hn : r.val ≤ n
      · exact H r a hn
      · obtain rfl : r = ⟨n + 1, h⟩ := Fin.ext (by simp only; omega)
        exact H' a
    · intro H
      exact ⟨fun r a hr => H r a (by omega), fun a => H _ a (Nat.le_refl _)⟩

theorem rowOf_surj (i : Fin 2048) : ∃ r a, rowOf r a = i :=
  ⟨⟨i.val / 256, by omega⟩, ⟨i.val % 256, by omega⟩, Fin.ext (by simp only [rowOf]; omega)⟩

theorem col_last (b : Fin 16) (j : Fin 2048) :
    colAt (entry1 m) c (pt1 b 7).val (pt1 b 7).isLt (ix2 0 j)
      = Finset.univ.inf fun i => sqDist (moved (p1 (A0 m c) b) (fl (A2 m c) b) i) (p2 (A1 m c) b) j := by
  refine eq_of_forall_le_iff fun z => ?_
  rw [show (7 : Fin 8) = ⟨7, by omega⟩ from rfl, col_le m c b j z 7 (by omega)]
  simp only [Finset.le_inf_iff, Finset.mem_univ, true_implies]
  constructor
  · intro H i
    obtain ⟨r, a, rfl⟩ := rowOf_surj i
    exact H r a (by omega)
  · intro H r a _; exact H _

theorem sel_last (r : Fin 8) (x y : EReal) : Scalar.select (Scalar.cmpi .eq (BitVec.ofNat 32 r.val) 7#32) x y = if r.val = 7 then x else y := by
  fin_cases r <;> rfl
theorem sel_first (r : Fin 8) (x y : EReal) : Scalar.select (Scalar.cmpi .eq (BitVec.ofNat 32 r.val) 0#32) x y = if r.val = 0 then x else y := by
  fin_cases r <;> rfl

theorem step_eq (b : Fin 16) (r : Fin 8) (y : Vec Ideal S1x1x1 .f32) (i : S1x1x1.Idx) :
    lossStep (entry1 m) c (pt1 b r) y i
      = if r.val = 7 then (if r.val = 0 then 0 else y i) + rowPart (p1 (A0 m c) b) (p2 (A1 m c) b) (fl (A2 m c) b) r
          + ∑ j, colAt (entry1 m) c (pt1 b r).val (pt1 b r).isLt (ix2 0 j)
        else (if r.val = 0 then 0 else y i) + rowPart (p1 (A0 m c) b) (p2 (A1 m c) b) (fl (A2 m c) b) r := by
  unfold lossStep
  rw [mod_pt, lossOf_apply, part_eq, sel_last, sel_first]

theorem acc_eq (b : Fin 16) (i : S1x1x1.Idx) : ∀ (n : ℕ) (h : n < 7),
    accAt (entry1 m) c (pt1 b ⟨n, by omega⟩).val (pt1 b ⟨n, by omega⟩).isLt i
      = ∑ r : Fin (n + 1), rowPart (p1 (A0 m c) b) (p2 (A1 m c) b) (fl (A2 m c) b) ⟨r.val, by omega⟩
  | 0, h => by
    rw [accAt_first _ _ _ (mod_pt b ⟨0, by omega⟩) (fun _ => 0), step_eq, if_neg (by simp), if_pos rfl, zero_add, Fin.sum_univ_one]
    rfl
  | n + 1, h => by
    have ih := acc_eq b i n (by omega)
    rw [accAt_later _ _ _ (by rw [mod_pt]; exact Nat.succ_ne_zero n), step_eq, if_neg (by simp only; omega), if_neg (by simp)]
    have e : (pt1 b ⟨n + 1, by omega⟩).val - 1 = (pt1 b ⟨n, by omega⟩).val := by simp only [pt1]; omega
    simp only [e]
    rw [ih, Fin.sum_univ_castSucc (n := n + 1)]
    rfl

theorem acc_last (b : Fin 16) (i : S1x1x1.Idx) :
    accAt (entry1 m) c (pt1 b 7).val (pt1 b 7).isLt i = cloudLoss (p1 (A0 m c) b) (p2 (A1 m c) b) (fl (A2 m c) b) := by
  rw [accAt_later _ _ _ (by rw [mod_pt]; decide), step_eq, if_pos (show (7 : Fin 8).val = 7 from rfl), if_neg (show ¬(7 : Fin 8).val = 0 by decide)]
  have e : (pt1 b 7).val - 1 = (pt1 b ⟨6, by omega⟩).val := by simp only [pt1]; rfl
  simp only [e]
  rw [acc_eq m c b i 6 (by omega)]
  simp only [col_last]
  unfold cloudLoss
  rw [Fin.sum_univ_castSucc (n := 7)]
  rfl

theorem lossOut_apply (b : Fin 16) : lossOut m c (ix3 b 0 0) = cloudLoss (p1 (A0 m c) b) (p2 (A1 m c) b) (fl (A2 m c) b) := by
  have e : lossOut m c = fun i : S16x1x1.Idx => cloudLoss (p1 (A0 m c) (i 0)) (p2 (A1 m c) (i 0)) (fl (A2 m c) (i 0)) := by
    unfold lossOut
    refine (dat1 (entry1 m) c).arrAt_eq_of_covers 6 _ (by decide +kernel) fun t hf y => ?_
    obtain ⟨b, r, rfl⟩ := cover_rows1 t
    have hr : r = 7 := by
      have := (flush1_6 _).mp hf
      rw [mod_pt] at this
      exact Fin.ext this
    subst hr
    have he : (((cfg1.win 6).blk (pt1 b 7)).view.emb y : S16x1x1.Idx) 0 = b := by
      refine Fin.ext ?_
      have h0 : ((y : S1x1x1.Idx) 0).val < 1 := ((y : S1x1x1.Idx) 0).isLt
      blk_simp [idx1_6, pt1]
      idx_bounds y
      simp
      omega
    rw [he]
    exact (congrFun (after1_6 (entry1 m) c (pt1 b 7)) _).trans (acc_last m c b _)
  rw [e]
  rfl

/-! ## The result -/

/-- The weight of a cloud. -/
def weight (b : Fin 16) : EReal := Ideal.div (Ideal.ofBits .f32 (lit0 ⟨b.val / 4, by omega⟩)) (Ideal.ofBits .f32 0x40800000#32)

/-- The host's closing sum, over any losses and weights. -/
theorem closing (L : Vec Ideal S16x1x1 .f32) (K : Vec Ideal S4 .f32) (i : S_.Idx) :
    Host.reduceAdd (F := Ideal) (mulf (shapeCast S16 L shapeCasts_S16x1x1_S16)
      (Host.divf (shapeCast S16 (broadcastInDim S4x4 ![0] bcast_S4_S4x4_0 K) shapeCasts_S4x4_S16)
        (broadcastInDim S16 ![] bcast_S_S16 (constant S_ .f32 0x40800000#32))))
      (constant S_ .f32 0#32) reducesTo_S16_S_d0 h_S_ i
      = ∑ b : Fin 16, L (ix3 b 0 0) * Ideal.div (K (ix1 ⟨b.val / 4, by omega⟩)) (Ideal.ofBits .f32 0x40800000#32) := by
  pointwise

theorem closing_read (i : S_.Idx) :
    V5 m (outs m) c (Proc.devRef .tc main_v0) i
      = Host.reduceAdd (F := Ideal) (mulf (shapeCast S16 (V4 m (outs m) c (Proc.devRef .tc main_call0_v8)) shapeCasts_S16x1x1_S16)
      (Host.divf (shapeCast S16 (broadcastInDim S4x4 ![0] bcast_S4_S4x4_0 (V4 m (outs m) c (Proc.devRef .tc main_call0_cst))) shapeCasts_S4x4_S16)
        (broadcastInDim S16 ![] bcast_S_S16 (constant S_ .f32 0x40800000#32))))
      (constant S_ .f32 0#32) reducesTo_S16_S_d0 h_S_ i := by
  unfold V5
  entry_read
  simp only [StableHlo.TRef.ofBuf_toBuf]
  generalize V4 m (outs m) c (Proc.devRef .tc main_call0_v8) = L
  generalize V4 m (outs m) c (Proc.devRef .tc main_call0_cst) = K
  have t0 : ∀ x y z (v : Vec Ideal S_ .f32), (StableHlo.TRef.of main_v0 x y z : StableHlo.TRef sig ⟨S_, .f32⟩).toBuf (Val := Elt Ideal) v = v := fun _ _ _ _ => rfl
  have t13 : ∀ x y z (v : Vec Ideal S16 .f32), (StableHlo.TRef.of main_call0_v13 x y z : StableHlo.TRef sig ⟨S16, .f32⟩).ofBuf (Val := Elt Ideal) v = v := fun _ _ _ _ => rfl
  have t10 : ∀ x y z (v : Vec Ideal S16 .f32), (StableHlo.TRef.of main_call0_v10 x y z : StableHlo.TRef sig ⟨S16, .f32⟩).ofBuf (Val := Elt Ideal) v = v := fun _ _ _ _ => rfl
  have t9 : ∀ x y z (v : Vec Ideal S4x4 .f32), (StableHlo.TRef.of main_call0_v9 x y z : StableHlo.TRef sig ⟨S4x4, .f32⟩).toBuf (Val := Elt Ideal) v = v := fun _ _ _ _ => rfl
  have tc : ∀ x y z (v : Vec Ideal S4 .f32), (StableHlo.TRef.of main_call0_cst x y z : StableHlo.TRef sig ⟨S4, .f32⟩).ofBuf (Val := Elt Ideal) v = v := fun _ _ _ _ => rfl
  refine (congrFun (t0 _ _ _ _) i).trans (congrArg (fun X => Host.reduceAdd (F := Ideal) X (constant S_ .f32 0#32) reducesTo_S16_S_d0 h_S_ i) ?_)
  refine congrArg₂ mulf (t13 _ _ _ _) (congrArg₂ Host.divf ((t10 _ _ _ _).trans ?_) rfl)
  refine congrArg (fun X => shapeCast S16 X shapeCasts_S4x4_S16) ((t9 _ _ _ _).trans ?_)
  exact congrArg (broadcastInDim S4x4 ![0] bcast_S4_S4x4_0) (tc _ _ _ _)

theorem weights (i : S_.Idx) :
    @Eq EReal (V5 m (outs m) c (Proc.devRef .tc main_v0) i)
      (∑ b : Fin 16, cloudLoss (p1 (A0 m c) b) (p2 (A1 m c) b) (fl (A2 m c) b) * weight b) := by
  have hc : V4 m (outs m) c (Proc.devRef .tc main_call0_cst) = fun i : S4.Idx => Ideal.ofBits .f32 (lit0 (S4.rowMajor i)) := by
    rw [V4_ne m c _ (by decide), ← entry1_eq, e3_same m c _ (by decide) (by decide)]
    rfl
  have h8 : V4 m (outs m) c (Proc.devRef .tc main_call0_v8) = lossOut m c := V4_at m c
  refine (closing_read m c i).trans ((closing _ _ i).trans (Finset.sum_congr rfl fun b _ => ?_))
  rw [h8, hc]
  refine congrArg₂ (· * ·) (lossOut_apply m c b) ?_
  unfold weight
  have e : S4.rowMajor (ix1 ⟨b.val / 4, by omega⟩) = (⟨b.val / 4, by omega⟩ : Fin 4) := Fin.ext (Shape.rowMajor_val_one _)
  exact congrArg (fun x => Ideal.div (Ideal.ofBits .f32 (lit0 x)) (Ideal.ofBits .f32 0x40800000#32)) e

end Cert.KernelIdeal.Run

end
-- ==== Proof.Cloud.lean ====
/-
  One cloud's loss: the kernel's form equals the sum of the reference's four terms, wherever the nearest distances are
  distinct. The coordinates are then real numbers, and so is every term.
-/
module

public import proofs.«01_k».proof.Proof.KernelLoss

@[expose] public section

set_option maxRecDepth 16384

noncomputable section

namespace Cert.Cloud

open Idealize.ShloMosaic
open Cert.KernelIdeal.Block (hit curvRow gap wgt curvTerm)
open Cert.KernelIdeal.Run (rowOf curv2 rowPart cloudLoss)

/-! ## Real numbers among the extended ones -/

theorem coe_sum' {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_div' (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem coe_sqrt' (a : ℝ) (ha : 0 ≤ a) : Ideal.sqrt (a : EReal) = ((Real.sqrt a : ℝ) : EReal) := by
  show (if a < 0 then (⊥ : EReal) else (Real.sqrt a : EReal)) = _
  rw [if_neg (not_lt.mpr ha)]

theorem coe_max' (a b : ℝ) : max (a : EReal) (b : EReal) = ((max a b : ℝ) : EReal) :=
  (EReal.coe_strictMono.monotone.map_max).symm

theorem coe_inf' {n : ℕ} (hn : 0 < n) (f : Fin n → ℝ) : ∃ a : ℝ, Finset.univ.inf (fun j => (f j : EReal)) = a := by
  obtain ⟨i, -, hi⟩ := Finset.exists_mem_eq_inf Finset.univ ⟨⟨0, hn⟩, Finset.mem_univ _⟩ (fun j => (f j : EReal))
  exact ⟨f i, hi⟩

theorem two_word : Ideal.ofBits .f32 0xC0000000#32 = ((-2 : ℝ) : EReal) := by
  simp [Ideal.ofBits, Ideal.ieee, -EReal.coe_mul]; norm_num
theorem nine_word : Ideal.ofBits .f32 0x41100000#32 = ((9 : ℝ) : EReal) := by
  simp [Ideal.ofBits, Ideal.ieee, -EReal.coe_mul]; norm_num
theorem eight_word : Ideal.ofBits .f32 0x41000000#32 = ((8 : ℝ) : EReal) := by
  simp [Ideal.ofBits, Ideal.ieee, -EReal.coe_mul]; norm_num
theorem four_word : Ideal.ofBits .f32 0x40800000#32 = ((4 : ℝ) : EReal) := by
  simp [Ideal.ofBits, Ideal.ieee, -EReal.coe_mul]; norm_num
theorem offset_word : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]
theorem least_word : ∃ e : ℝ, 0 < e ∧ Ideal.ofBits .f32 0x179ABE15#32 = (e : EReal) := by
  refine ⟨10141205 * (2 : ℝ) ^ (-103 : ℤ), by positivity, ?_⟩
  simp [Ideal.ofBits, Ideal.ieee, -EReal.coe_mul]
theorem third_word : ∃ e : ℝ, Ideal.ofBits .f32 0x3E99999A#32 = (e : EReal) := by
  refine ⟨10066330 * (2 : ℝ) ^ (-25 : ℤ), ?_⟩
  simp [Ideal.ofBits, Ideal.ieee, -EReal.coe_mul]

/-! ## Distances -/

/-- The squared distance of two real points. -/
def rd (x y : Fin 3 → ℝ) : ℝ := ∑ k, (x k - y k) * (x k - y k)

theorem rd_nonneg (x y : Fin 3 → ℝ) : 0 ≤ rd x y := Finset.sum_nonneg fun k _ => mul_self_nonneg _

theorem sqDist_coe {n : ℕ} (x : Fin 3 → ℝ) (y : Fin n → Fin 3 → ℝ) (j : Fin n) :
    sqDist (fun k => (x k : EReal)) (fun j k => (y j k : EReal)) j = (rd x (y j) : EReal) := by
  unfold sqDist rd
  rw [two_word]
  simp only [← EReal.coe_mul, coe_sum', ← EReal.coe_add]
  congr 1
  simp only [Fin.sum_univ_three]
  ring

/-! ## Sums over the nearest -/

theorem sum_hit (r : Fin 2048 → EReal) {k : ℕ} (hk : k + 1 < 2048) (hr : Apart r (k + 1)) (f : Fin 2048 → EReal) :
    ∑ j, hit r k j * f j = ∑ q : Fin (k + 1), f (near r (by omega) q) := by
  rw [← sum_le_level r hk hr f]
  refine Finset.sum_congr rfl fun j _ => ?_
  unfold hit
  split <;> simp

theorem count_hit (r : Fin 2048 → EReal) {k : ℕ} (hk : k + 1 < 2048) (hr : Apart r (k + 1)) :
    ∑ j, hit r k j = (((k + 1 : ℕ) : ℝ) : EReal) := by
  have e : ∑ j, hit r k j = ∑ q : Fin (k + 1), ((1 : ℝ) : EReal) := by
    rw [← sum_le_level r hk hr (fun _ => ((1 : ℝ) : EReal))]
    rfl
  rw [e, coe_sum']
  simp

/-- The mean offset of the ten nearest, as the reference sums it. -/
def pull (r : Fin 2048 → EReal) (v : Fin 2048 → EReal) (x : EReal) : EReal :=
  Ideal.div (∑ q : Fin 10, (v (near r (by omega) q) - x)) (Ideal.ofBits .f32 0x41100000#32)

theorem pull_coe (r : Fin 2048 → EReal) (v : Fin 2048 → ℝ) (x : ℝ) :
    pull r (fun j => (v j : EReal)) x = (((∑ q : Fin 10, (v (near r (by omega) q) - x)) / 9 : ℝ) : EReal) := by
  unfold pull
  simp only [← EReal.coe_sub, coe_sum', nine_word]
  exact coe_div' _ _ (by norm_num)

theorem curvRow_eq (r : Fin 2048 → EReal) (hr : Apart r 10) (v : Fin 2048 → ℝ) (x : ℝ) :
    curvRow r (fun j => (v j : EReal)) x = pull r (fun j => (v j : EReal)) x := by
  rw [pull_coe]
  unfold curvRow
  rw [sum_hit r (k := 9) (by omega) hr, count_hit r (k := 9) (by omega) hr, coe_sum', ← EReal.coe_mul, ← EReal.coe_sub, nine_word, coe_div' _ _ (by norm_num)]
  congr 2
  rw [Finset.sum_sub_distrib]
  simp

/-- The inverse-distance interpolation over the five nearest, as the reference sums it. -/
def blend (r : Fin 2048 → EReal) (e : EReal) (c : Fin 2048 → EReal) : EReal :=
  ∑ q : Fin 5, Ideal.div (Ideal.div 1 (r (near r (by omega) q) + e)) (∑ q' : Fin 5, Ideal.div 1 (r (near r (by omega) q') + e)) * c (near r (by omega) q)

section
variable (R : Fin 2048 → ℝ) (hR : ∀ j, 0 ≤ R j) (e : ℝ) (he : 0 < e) (c : Fin 2048 → ℝ)

theorem one_div_coe (x : ℝ) (hx : 0 < x) : Ideal.div 1 (x : EReal) = ((1 / x : ℝ) : EReal) := by
  rw [← EReal.coe_one]; exact coe_div' _ _ hx.ne'

include hR he in
theorem norm_pos (n : Fin 5 → Fin 2048) : 0 < ∑ q, 1 / (R (n q) + e) :=
  Finset.sum_pos (fun q _ => by have := hR (n q); positivity) ⟨0, Finset.mem_univ _⟩

include hR he in
theorem blend_coe : blend (fun j => (R j : EReal)) e (fun j => (c j : EReal))
    = ((∑ q : Fin 5, 1 / (R (near (fun j => (R j : EReal)) (by omega) q) + e) / (∑ q' : Fin 5, 1 / (R (near (fun j => (R j : EReal)) (by omega) q') + e))
        * c (near (fun j => (R j : EReal)) (by omega) q) : ℝ) : EReal) := by
  have h : ∀ j, 0 < R j + e := fun j => by have := hR j; positivity
  have hN := norm_pos R hR e he (near (fun j => (R j : EReal)) (by omega))
  unfold blend
  simp only [← EReal.coe_add, one_div_coe _ (h _), coe_sum', coe_div' _ _ hN.ne', ← EReal.coe_mul]

include hR he in
theorem sum_wgt (hr : Apart (fun j => (R j : EReal)) 5) (f : Fin 2048 → ℝ) :
    ∑ j, wgt (fun j => (R j : EReal)) e j * (f j : EReal)
      = ((∑ q : Fin 5, 1 / (R (near (fun j => (R j : EReal)) (by omega) q) + e) * f (near (fun j => (R j : EReal)) (by omega) q) : ℝ) : EReal) := by
  have h : ∀ j, 0 < R j + e := fun j => by have := hR j; positivity
  rw [← coe_sum', ← sum_le_level (fun j => (R j : EReal)) (k := 4) (by omega) hr (fun j => ((1 / (R j + e) * f j : ℝ) : EReal))]
  refine Finset.sum_congr rfl fun j _ => ?_
  unfold wgt hit
  rw [← EReal.coe_add]
  split
  · rw [one_div_coe _ (h j), ← EReal.coe_mul]
  · rw [← EReal.coe_zero, coe_div' _ _ (h j).ne', ← EReal.coe_mul]
    simp

include hR he in
theorem curvTerm_eq (hr : Apart (fun j => (R j : EReal)) 5) (x : EReal) :
    curvTerm (fun j => (R j : EReal)) e (fun j => (c j : EReal)) x
      = (blend (fun j => (R j : EReal)) e (fun j => (c j : EReal)) - x) * (blend (fun j => (R j : EReal)) e (fun j => (c j : EReal)) - x) := by
  have hN := norm_pos R hR e he (near (fun j => (R j : EReal)) (by omega))
  have h1 : ∑ j, wgt (fun j => (R j : EReal)) e j = ((∑ q : Fin 5, 1 / (R (near (fun j => (R j : EReal)) (by omega) q) + e) : ℝ) : EReal) := by
    have := sum_wgt R hR e he hr (fun _ => 1)
    simpa using this
  unfold curvTerm
  rw [sum_wgt R hR e he hr c, h1, one_div_coe _ hN, ← EReal.coe_mul, blend_coe R hR e he c]
  have : (∑ q : Fin 5, 1 / (R (near (fun j => (R j : EReal)) (by omega) q) + e) * c (near (fun j => (R j : EReal)) (by omega) q))
        * (1 / ∑ q : Fin 5, 1 / (R (near (fun j => (R j : EReal)) (by omega) q) + e))
      = ∑ q : Fin 5, 1 / (R (near (fun j => (R j : EReal)) (by omega) q) + e) / (∑ q' : Fin 5, 1 / (R (near (fun j => (R j : EReal)) (by omega) q') + e))
        * c (near (fun j => (R j : EReal)) (by omega) q) := by
    rw [Finset.sum_mul]
    exact Finset.sum_congr rfl fun q _ => by ring
  rw [this]
end

/-! ## The terms of a cloud's loss -/

section
variable (P1 P2 FL : Fin 2048 → Fin 3 → EReal)

/-- The reference's smoothness of a point before its division by 8. -/
def rough (i : Fin 2048) : EReal :=
  ∑ q : Fin 9, Ideal.sqrt (max (∑ c, (FL (near (sqDist (P1 i) P1) (by omega) q) c - FL i c) * (FL (near (sqDist (P1 i) P1) (by omega) q) c - FL i c)) (Ideal.ofBits .f32 0x179ABE15#32))

/-- The second cloud's curvature. -/
def curvTwo (i : Fin 2048) (k : Fin 3) : EReal := pull (sqDist (P2 i) P2) (fun j => P2 j k) (P2 i k)

/-- The moved cloud's curvature. -/
def curvMoved (i : Fin 2048) (k : Fin 3) : EReal :=
  pull (sqDist (P1 i) P1) (fun j => P1 j k + FL j k) (P1 i k + FL i k)

/-- The second cloud's curvature interpolated at a moved point. -/
def curvInter (i : Fin 2048) (k : Fin 3) : EReal :=
  blend (sqDist (fun k => P1 i k + FL i k) P2) (Ideal.ofBits .f32 0x322BCC77#32) (fun j => curvTwo P2 j k)

def nearOne : EReal := ∑ i, Finset.univ.inf (sqDist (fun k => P1 i k + FL i k) P2)
def nearTwo : EReal := ∑ j, Finset.univ.inf fun i => sqDist (fun k => P1 i k + FL i k) P2 j
def smooth : EReal := ∑ i, Ideal.div (rough P1 FL i) (Ideal.ofBits .f32 0x41000000#32)
def curved : EReal := ∑ i, ∑ k, (curvInter P1 P2 FL i k - curvMoved P1 FL i k) * (curvInter P1 P2 FL i k - curvMoved P1 FL i k)
end

theorem sum_rows {M : Type} [AddCommMonoid M] (f : Fin 2048 → M) : ∑ r, ∑ a, f (rowOf r a) = ∑ i, f i := by
  rw [← Finset.sum_product']
  refine Finset.sum_bij (fun p _ => rowOf p.1 p.2) (fun _ _ => Finset.mem_univ _) ?_ ?_ (fun _ _ => rfl)
  · rintro ⟨r, a⟩ _ ⟨r', a'⟩ _ h
    have h' := congrArg Fin.val h
    simp only [rowOf] at h'
    have : r.val = r'.val := by omega
    have : a.val = a'.val := by omega
    exact Prod.ext (Fin.ext ‹_›) (Fin.ext ‹_›)
  · intro i _
    obtain ⟨r, a, h⟩ := Cert.KernelIdeal.Run.rowOf_surj i
    exact ⟨(r, a), Finset.mem_univ _, h⟩

section
variable (p1 p2 f : Fin 2048 → Fin 3 → ℝ)

theorem rough_real (i : Fin 2048) : ∃ a : ℝ, rough (fun i k => (p1 i k : EReal)) (fun i k => (f i k : EReal)) i = a := by
  obtain ⟨e, he, hw⟩ := least_word
  unfold rough
  simp only [hw, ← EReal.coe_sub, ← EReal.coe_mul, coe_sum', coe_max', coe_sqrt' _ (le_max_of_le_right he.le)]
  exact ⟨_, rfl⟩

theorem curvTwo_real : ∃ a : Fin 2048 → Fin 3 → ℝ, curvTwo (fun i k => (p2 i k : EReal)) = fun i k => (a i k : EReal) :=
  ⟨_, funext fun _ => funext fun _ => pull_coe _ _ _⟩

theorem curvMoved_real (i : Fin 2048) (k : Fin 3) : ∃ a : ℝ, curvMoved (fun i k => (p1 i k : EReal)) (fun i k => (f i k : EReal)) i k = a := by
  unfold curvMoved
  simp only [← EReal.coe_add]
  exact ⟨_, pull_coe _ _ _⟩

theorem dist_real (i : Fin 2048) : sqDist (fun k => (p1 i k : EReal) + (f i k : EReal)) (fun i k => (p2 i k : EReal))
    = fun j => (rd (fun k => p1 i k + f i k) (p2 j) : EReal) := by
  funext j
  simp only [← EReal.coe_add]
  exact sqDist_coe _ _ j

theorem curvInter_real (i : Fin 2048) (k : Fin 3) :
    ∃ a : ℝ, curvInter (fun i k => (p1 i k : EReal)) (fun i k => (p2 i k : EReal)) (fun i k => (f i k : EReal)) i k = a := by
  obtain ⟨e, he, hw⟩ := offset_word
  obtain ⟨c, hc⟩ := curvTwo_real p2
  unfold curvInter
  rw [hc, hw, dist_real]
  exact ⟨_, blend_coe _ (fun _ => rd_nonneg _ _) e he _⟩
end

/-- The kernel's loss of a cloud is the sum of the reference's terms, each of which is a real number. -/
theorem cloudLoss_real (p1 p2 f : Fin 2048 → Fin 3 → ℝ) (P1 P2 FL : Fin 2048 → Fin 3 → EReal)
    (h1 : P1 = fun i k => (p1 i k : EReal)) (h2 : P2 = fun i k => (p2 i k : EReal)) (h3 : FL = fun i k => (f i k : EReal))
    (h11 : ∀ i, Apart (sqDist (P1 i) P1) 10) (h22 : ∀ i, Apart (sqDist (P2 i) P2) 10)
    (h12 : ∀ i, Apart (sqDist (fun k => P1 i k + FL i k) P2) 5) :
    ∃ a b c d : ℝ, nearOne P1 P2 FL = a ∧ nearTwo P1 P2 FL = b ∧ smooth P1 FL = c ∧ curved P1 P2 FL = d
      ∧ cloudLoss P1 P2 FL = (a : EReal) + b + c + Ideal.ofBits .f32 0x3E99999A#32 * d := by
  obtain ⟨w, hw⟩ := third_word
  -- each row's terms
  have hm : ∀ i, ∃ a : ℝ, Finset.univ.inf (sqDist (fun k => P1 i k + FL i k) P2) = a := fun i => by
    rw [h1, h2, h3, dist_real]; exact coe_inf' (by omega) _
  have hn : ∀ j, ∃ a : ℝ, (Finset.univ.inf fun i => sqDist (fun k => P1 i k + FL i k) P2 j) = a := fun j => by
    rw [h1, h2, h3]; simp only [dist_real]; exact coe_inf' (by omega) _
  have hs : ∀ i, ∃ a : ℝ, rough P1 FL i = a := fun i => by rw [h1, h3]; exact rough_real p1 f i
  have hi : ∀ i k, ∃ a : ℝ, curvInter P1 P2 FL i k = a := fun i k => by rw [h1, h2, h3]; exact curvInter_real p1 p2 f i k
  have hv : ∀ i k, ∃ a : ℝ, curvMoved P1 FL i k = a := fun i k => by rw [h1, h3]; exact curvMoved_real p1 f i k
  choose m hm using hm
  choose n hn using hn
  choose s hs using hs
  choose u hu using hi
  choose v hv using hv
  -- the kernel's terms are the reference's
  have k2 : ∀ i k, curv2 P2 i k = curvTwo P2 i k := fun i k => by
    unfold curv2 curvTwo
    have := h22 i
    rw [h2] at this ⊢
    exact curvRow_eq _ this _ _
  have km : ∀ i k, curvRow (sqDist (P1 i) P1) (fun j => P1 j k + FL j k) (P1 i k + FL i k) = curvMoved P1 FL i k := fun i k => by
    unfold curvMoved
    have := h11 i
    rw [h1] at this ⊢
    rw [h3]
    simp only [← EReal.coe_add]
    exact curvRow_eq _ this _ _
  have kr : ∀ i, ∑ j, hit (sqDist (P1 i) P1) 8 j * gap (FL i) (FL j) = rough P1 FL i := fun i => by
    rw [sum_hit _ (k := 8) (by omega) ((h11 i).mono (by omega))]
    unfold rough gap
    simp only [Fin.sum_univ_three]
  have kt : ∀ i k, curvTerm (sqDist (fun k => P1 i k + FL i k) P2) (Ideal.ofBits .f32 0x322BCC77#32) (fun j => curvTwo P2 j k) (curvMoved P1 FL i k)
      = (((u i k - v i k) * (u i k - v i k) : ℝ) : EReal) := fun i k => by
    rw [EReal.coe_mul, EReal.coe_sub, ← hu, ← hv]
    unfold curvInter
    have ha := h12 i
    generalize curvMoved P1 FL i k = x
    obtain ⟨e, he, hw⟩ := offset_word
    obtain ⟨c, hc⟩ := curvTwo_real p2
    rw [← h2] at hc
    rw [hc, hw]
    rw [h1, h2, h3, dist_real] at ha ⊢
    exact curvTerm_eq _ (fun _ => rd_nonneg _ _) e he _ ha x
  have kp : ∀ r, rowPart P1 P2 FL r = (((∑ a, m (rowOf r a)) + (∑ a, s (rowOf r a)) / 8
      + w * ∑ a, ∑ k, (u (rowOf r a) k - v (rowOf r a) k) * (u (rowOf r a) k - v (rowOf r a) k) : ℝ) : EReal) := fun r => by
    unfold rowPart Cert.KernelIdeal.Run.moved
    simp only [k2, km, kr, kt, hs, coe_sum', eight_word, hw]
    have hl : ∀ i, level (sqDist (fun k => P1 i k + FL i k) P2) 0 = (m i : EReal) := hm
    simp only [hl, coe_sum']
    rw [coe_div' _ _ (by norm_num)]
    simp only [← EReal.coe_add, ← EReal.coe_mul, Fin.sum_univ_three, Finset.sum_add_distrib]
  refine ⟨∑ i, m i, ∑ j, n j, ∑ i, s i / 8, ∑ i, ∑ k, (u i k - v i k) * (u i k - v i k), ?_, ?_, ?_, ?_, ?_⟩
  · unfold nearOne; simp only [hm, coe_sum']
  · unfold nearTwo; simp only [hn, coe_sum']
  · unfold smooth; simp only [hs, eight_word]
    rw [← coe_sum']
    exact Finset.sum_congr rfl fun i _ => coe_div' _ _ (by norm_num)
  · unfold curved; simp only [hu, hv, ← EReal.coe_sub, ← EReal.coe_mul, coe_sum']
  · unfold cloudLoss Cert.KernelIdeal.Run.moved
    simp only [kp, hn, coe_sum', hw, ← EReal.coe_add, ← EReal.coe_mul]
    congr 1
    rw [Finset.sum_add_distrib, Finset.sum_add_distrib, ← Finset.mul_sum, ← Finset.sum_div, sum_rows m, sum_rows s,
      sum_rows (fun i => ∑ k, (u i k - v i k) * (u i k - v i k)), Finset.sum_div]
    ring

theorem real_of_add (a : ℝ) (x : EReal) (h : ∃ b : ℝ, (a : EReal) + x = b) : ∃ c : ℝ, x = c := by
  obtain ⟨b, h⟩ := h
  induction x with
  | bot => simp at h
  | top => simp at h
  | coe c => exact ⟨c, rfl⟩

theorem cloudLoss_eq (P1 P2 FL : Fin 2048 → Fin 3 → EReal)
    (h11 : ∀ i, Apart (sqDist (P1 i) P1) 10) (h22 : ∀ i, Apart (sqDist (P2 i) P2) 10)
    (h12 : ∀ i, Apart (sqDist (fun k => P1 i k + FL i k) P2) 5) :
    ∃ a b c d : ℝ, nearOne P1 P2 FL = a ∧ nearTwo P1 P2 FL = b ∧ smooth P1 FL = c ∧ curved P1 P2 FL = d
      ∧ cloudLoss P1 P2 FL = (a : EReal) + b + c + Ideal.ofBits .f32 0x3E99999A#32 * d := by
  have r1 : ∀ i k, ∃ a : ℝ, P1 i k = a := fun i k => finite_of_apart (P1 i) P1 (by omega) ((h11 i).mono (by omega)) k
  have r2 : ∀ i k, ∃ a : ℝ, P2 i k = a := fun i k => finite_of_apart (P2 i) P2 (by omega) ((h22 i).mono (by omega)) k
  choose p1 hp1 using r1
  choose p2 hp2 using r2
  have r3 : ∀ i k, ∃ a : ℝ, FL i k = a := fun i k => by
    obtain ⟨a, h⟩ := finite_of_apart (fun k => P1 i k + FL i k) P2 (by omega) ((h12 i).mono (by omega)) k
    exact real_of_add (p1 i k) _ ⟨a, by rw [← hp1]; exact h⟩
  choose f hf using r3
  exact cloudLoss_real p1 p2 f P1 P2 FL (funext fun i => funext (hp1 i)) (funext fun i => funext (hp2 i)) (funext fun i => funext (hf i)) h11 h22 h12

end Cert.Cloud

end
-- ==== Proof.PreRead.lean ====
/-
  The precondition read: on every row the first values in order are distinct, for the three squared distances.
-/
module

public import proofs.«01_k».proof.Pre_distinct_neighbours
public import proofs.«01_k».proof.Proof.RefDist

@[expose] public section

set_option maxRecDepth 16384

noncomputable section

namespace Cert.Pre_distinct_neighbours

open Idealize.ShloMosaic Cert.Cloud

instance facts : Facts where
  shapeCasts_S4x4x2048x3_S16x2048x3 := by decide
  reducesTo_S16x2048x3_S16x2048_d2 := by decide
  h_S_ := by decide
  bcast_S_S16x2048x2048 := by decide
  bcast_S16x2048_S16x2048x2048_0_1 := by decide
  bcast_S16x2048_S16x2048x2048_0_2 := by decide
  sliceFits_S16x2048x2048_S16x2048x11 := by decide
  sliceFits_S16x2048x2048_S16x2048x6 := by decide
  slices_S16x2048x11_S16x2048x10_0_0_0 := by decide
  slices_S16x2048x11_S16x2048x10_0_0_1 := by decide
  slices_S16x2048x6_S16x2048x5_0_0_0 := by decide
  slices_S16x2048x6_S16x2048x5_0_0_1 := by decide
  dot_S16x2048x3_S16x2048x3_S16x2048x2048_2_2_1_1_0_0_wf := by decide

open Facts

/-- The squared distances of the points of `l` to those of `r`. -/
def dists (l r : FVec Ideal S16x2048x3 .f32) : FVec Ideal S16x2048x2048 .f32 :=
  addf (addf (mulf (broadcastInDim S16x2048x2048 ![] bcast_S_S16x2048x2048 (constant S_ .f32 0xC0000000#32))
      (Host.dotGeneral dot_S16x2048x3_S16x2048x3_S16x2048x2048_2_2_1_1_0_0 none l r))
    (broadcastInDim S16x2048x2048 ![0, 1] bcast_S16x2048_S16x2048x2048_0_1 (Host.reduceAdd (mulf l l) (constant S_ .f32 0x00000000#32) reducesTo_S16x2048x3_S16x2048_d2 h_S_)))
    (broadcastInDim S16x2048x2048 ![0, 2] bcast_S16x2048_S16x2048x2048_0_2 (Host.reduceAdd (mulf r r) (constant S_ .f32 0x00000000#32) reducesTo_S16x2048x3_S16x2048_d2 h_S_))

theorem dists_apply (l r : FVec Ideal S16x2048x3 .f32) (b : Fin 16) (a j : Fin 2048) :
    dists l r (ix3 b a j) = sqDist (fun k => l (ix3 b a k)) (fun j k => r (ix3 b j k)) j := by
  unfold sqDist
  pointwise [dists]

/-- Where each of the first values of the negated distances, greatest first, exceeds the next, the distances are apart. -/
theorem apart_of (D : FVec Ideal S16x2048x2048 .f32) {k : ℕ} (hk : k + 1 ≤ 2048)
    (h : S16x2048x2048.Slices (fun _ => 0) ⟨3, ![16, 2048, k + 1]⟩)
    (h0 : (⟨3, ![16, 2048, k + 1]⟩ : Shape).Slices ![0, 0, 0] ⟨3, ![16, 2048, k]⟩)
    (h1 : (⟨3, ![16, 2048, k + 1]⟩ : Shape).Slices ![0, 0, 1] ⟨3, ![16, 2048, k]⟩)
    (H : cmpf (F := Ideal) (φ := .f32) .ogt
        (extractStridedSlice ⟨3, ![16, 2048, k]⟩ ![0, 0, 0] (Host.topK ⟨3, ![16, 2048, k + 1]⟩ 2 (FloatOps.cmpfTotal .gt) (Host.negf D) h).1 h0)
        (extractStridedSlice ⟨3, ![16, 2048, k]⟩ ![0, 0, 1] (Host.topK ⟨3, ![16, 2048, k + 1]⟩ 2 (FloatOps.cmpfTotal .gt) (Host.negf D) h).1 h1)
      = fun _ => 1#1) (b : Fin 16) (a : Fin 2048) : Apart (fun j => D (ix3 b a j)) k := by
  intro p hp hpk
  have e := congrFun H (ix3 b a ⟨p, hpk⟩)
  have e0 : extractStridedSlice ⟨3, ![16, 2048, k]⟩ ![0, 0, 0] (Host.topK ⟨3, ![16, 2048, k + 1]⟩ 2 (FloatOps.cmpfTotal .gt) (Host.negf D) h).1 h0 (ix3 b a ⟨p, hpk⟩)
      = (Host.topK ⟨3, ![16, 2048, k + 1]⟩ 2 (FloatOps.cmpfTotal .gt) (Host.negf D) h).1 (ix3 b a ⟨p, by omega⟩) :=
    extractStridedSlice_apply _ _ h0 _ _ fun c => by
      match c with
      | ⟨0, _⟩ => exact (Nat.zero_add _).symm
      | ⟨1, _⟩ => exact (Nat.zero_add _).symm
      | ⟨2, _⟩ => exact (Nat.zero_add _).symm
  have e1 : extractStridedSlice ⟨3, ![16, 2048, k]⟩ ![0, 0, 1] (Host.topK ⟨3, ![16, 2048, k + 1]⟩ 2 (FloatOps.cmpfTotal .gt) (Host.negf D) h).1 h1 (ix3 b a ⟨p, hpk⟩)
      = (Host.topK ⟨3, ![16, 2048, k + 1]⟩ 2 (FloatOps.cmpfTotal .gt) (Host.negf D) h).1 (ix3 b a ⟨p + 1, by omega⟩) :=
    extractStridedSlice_apply _ _ h1 _ _ fun c => by
      match c with
      | ⟨0, _⟩ => exact (Nat.zero_add _).symm
      | ⟨1, _⟩ => exact (Nat.zero_add _).symm
      | ⟨2, _⟩ => exact Nat.add_comm _ _
  rw [topK_value D hk] at e0 e1
  change Ideal.cmp .ogt (extractStridedSlice ⟨3, ![16, 2048, k]⟩ ![0, 0, 0] (Host.topK ⟨3, ![16, 2048, k + 1]⟩ 2 (FloatOps.cmpfTotal .gt) (Host.negf D) h).1 h0 (ix3 b a ⟨p, hpk⟩))
    (extractStridedSlice ⟨3, ![16, 2048, k]⟩ ![0, 0, 1] (Host.topK ⟨3, ![16, 2048, k + 1]⟩ 2 (FloatOps.cmpfTotal .gt) (Host.negf D) h).1 h1 (ix3 b a ⟨p, hpk⟩)) = 1#1 at e
  rw [e0, e1] at e
  have := before_iff (fun j => D (ix3 b a j)) (near (fun j => D (ix3 b a j)) hk ⟨p, by omega⟩) (near (fun j => D (ix3 b a j)) hk ⟨p + 1, by omega⟩)
  rw [e] at this
  exact of_decide_eq_true this.symm

open Cert.ReferenceIdeal.Cloud

variable (x0 x1 x2 : Arg)

theorem apart11 (H : (fn (F := Ideal) x0 x1 x2).1 = fun _ => 1#1) (b : Fin 16) (a : Fin 2048) : Apart (sqDist (p1 x0 b a) (p1 x0 b)) 10 := by
  have e := apart_of (dists (shapeCast S16x2048x3 x0 shapeCasts_S4x4x2048x3_S16x2048x3) (shapeCast S16x2048x3 x0 shapeCasts_S4x4x2048x3_S16x2048x3)) (k := 10) (by omega)
    sliceFits_S16x2048x2048_S16x2048x11 slices_S16x2048x11_S16x2048x10_0_0_0 slices_S16x2048x11_S16x2048x10_0_0_1 H b a
  simp only [dists_apply] at e
  exact e

theorem apart22 (H : (fn (F := Ideal) x0 x1 x2).2.1 = fun _ => 1#1) (b : Fin 16) (a : Fin 2048) : Apart (sqDist (p2 x1 b a) (p2 x1 b)) 10 := by
  have e := apart_of (dists (shapeCast S16x2048x3 x1 shapeCasts_S4x4x2048x3_S16x2048x3) (shapeCast S16x2048x3 x1 shapeCasts_S4x4x2048x3_S16x2048x3)) (k := 10) (by omega)
    sliceFits_S16x2048x2048_S16x2048x11 slices_S16x2048x11_S16x2048x10_0_0_0 slices_S16x2048x11_S16x2048x10_0_0_1 H b a
  simp only [dists_apply] at e
  exact e

theorem apart12 (H : (fn (F := Ideal) x0 x1 x2).2.2 = fun _ => 1#1) (b : Fin 16) (a : Fin 2048) : Apart (sqDist (wp x0 x2 b a) (p2 x1 b)) 5 := by
  have e := apart_of (dists (shapeCast S16x2048x3 (addf x0 x2) shapeCasts_S4x4x2048x3_S16x2048x3) (shapeCast S16x2048x3 x1 shapeCasts_S4x4x2048x3_S16x2048x3)) (k := 5) (by omega)
    sliceFits_S16x2048x2048_S16x2048x6 slices_S16x2048x6_S16x2048x5_0_0_0 slices_S16x2048x6_S16x2048x5_0_0_1 H b a
  simp only [dists_apply] at e
  exact e

end Cert.Pre_distinct_neighbours

end
-- ==== Proof.Equal.lean ====
/-
  The kernel's result equals the reference's, wherever the nearest distances are distinct: each cloud's loss is the sum
  of the reference's terms, and the weighted sum over the clouds is the weighted sum of the scales' means.
-/
module

public import proofs.«01_k».proof.Proof.Cloud
public import proofs.«01_k».proof.Proof.PreRead

@[expose] public section

set_option maxRecDepth 16384

noncomputable section

namespace Cert.Cloud

open Idealize.ShloMosaic
open Cert.ReferenceIdeal Cert.ReferenceIdeal.Read
open Cert.ReferenceIdeal.Cloud (Arg p1 p2 fl wp place mean weigh n11 n12 n22 off12)
open Cert.KernelIdeal.Run (weight cloudLoss)

section
variable (x0 x1 x2 : Arg) (b : Fin 16)

theorem ref_nearOne : val_main_v106 (F := Ideal) x0 x1 x2 (ix1 b) = nearOne (p1 x0 b) (p2 x1 b) (fl x2 b) :=
  Cert.ReferenceIdeal.Cloud.chamfer1 x0 x1 x2 b

theorem ref_nearTwo : val_main_v108 (F := Ideal) x0 x1 x2 (ix1 b) = nearTwo (p1 x0 b) (p2 x1 b) (fl x2 b) :=
  Cert.ReferenceIdeal.Cloud.chamfer2 x0 x1 x2 b

theorem ref_smooth : val_main_v143 (F := Ideal) x0 x2 (ix1 b) = smooth (p1 x0 b) (fl x2 b) :=
  Cert.ReferenceIdeal.Cloud.smoothLoss x0 x2 b

theorem ref_curved : val_main_v104 (F := Ideal) x0 x1 x2 (ix1 b) = curved (p1 x0 b) (p2 x1 b) (fl x2 b) := by
  rw [Cert.ReferenceIdeal.Cloud.curvatureLoss]
  simp only [Cert.ReferenceIdeal.Cloud.inter, Cert.ReferenceIdeal.Cloud.moved, Cert.ReferenceIdeal.Cloud.curvature2]
  rfl
end

/-! ## The weights -/

theorem place_div (s q : Fin 4) : (⟨(place s q).val / 4, by omega⟩ : Fin 4) = s := by
  revert s q; decide

theorem weight_place (s q : Fin 4) : weight (place s q) = Ideal.div (Ideal.ofBits .f32 (Cert.KernelIdeal.lit0 s)) (Ideal.ofBits .f32 0x40800000#32) :=
  congrArg (fun i => Ideal.div (Ideal.ofBits .f32 (Cert.KernelIdeal.lit0 i)) (Ideal.ofBits .f32 0x40800000#32)) (place_div s q)

theorem sum_place {M : Type} [AddCommMonoid M] (g : Fin 16 → M) : ∑ b, g b = ∑ s, ∑ q, g (place s q) := by
  rw [← Finset.sum_product']
  symm
  refine Finset.sum_bij (fun p _ => place p.1 p.2) (fun _ _ => Finset.mem_univ _) ?_ ?_ (fun _ _ => rfl)
  · have h : ∀ s q s' q' : Fin 4, place s q = place s' q' → s = s' ∧ q = q' := by decide
    rintro ⟨s, q⟩ _ ⟨s', q'⟩ _ e
    exact Prod.ext (h s q s' q' e).1 (h s q s' q' e).2
  · have h : ∀ b : Fin 16, ∃ s q : Fin 4, place s q = b := by decide
    intro b _
    obtain ⟨s, q, e⟩ := h b
    exact ⟨(s, q), Finset.mem_univ _, e⟩

theorem first_weight : Ideal.ofBits .f32 0x3CA3D70A#32 = ((10737418 * (2 : ℝ) ^ (-29 : ℤ) : ℝ) : EReal) := by
  simp [Ideal.ofBits, Ideal.ieee, -EReal.coe_mul]
theorem second_weight : Ideal.ofBits .f32 0x3D23D70A#32 = ((10737418 * (2 : ℝ) ^ (-28 : ℤ) : ℝ) : EReal) := by
  simp [Ideal.ofBits, Ideal.ieee, -EReal.coe_mul]
theorem third_weight : Ideal.ofBits .f32 0x3DA3D70A#32 = ((10737418 * (2 : ℝ) ^ (-27 : ℤ) : ℝ) : EReal) := by
  simp [Ideal.ofBits, Ideal.ieee, -EReal.coe_mul]
theorem fourth_weight : Ideal.ofBits .f32 0x3E23D70A#32 = ((10737418 * (2 : ℝ) ^ (-26 : ℤ) : ℝ) : EReal) := by
  simp [Ideal.ofBits, Ideal.ieee, -EReal.coe_mul]

theorem weight_words : ∃ w : Fin 4 → ℝ, ∀ s, Ideal.ofBits .f32 (Cert.KernelIdeal.lit0 s) = (w s : EReal) := by
  have h : ∀ s : Fin 4, ∃ w : ℝ, Ideal.ofBits .f32 (Cert.KernelIdeal.lit0 s) = (w : EReal) := by
    intro s
    match s with
    | 0 => exact ⟨_, first_weight⟩
    | 1 => exact ⟨_, second_weight⟩
    | 2 => exact ⟨_, third_weight⟩
    | 3 => exact ⟨_, fourth_weight⟩
  choose w hw using h
  exact ⟨w, hw⟩

theorem mean_coe (f : Fin 16 → ℝ) (s : Fin 4) : mean (fun b => (f b : EReal)) s = (((∑ q, f (place s q)) / 4 : ℝ) : EReal) := by
  unfold mean
  rw [coe_sum', four_word, coe_div' _ _ (by norm_num)]

/-- The weighted sum over the clouds is the weighted sum of the scales' means. -/
theorem weighted (a b c d : Fin 16 → ℝ) :
    ∑ i : Fin 16, ((a i : EReal) + b i + c i + Ideal.ofBits .f32 0x3E99999A#32 * d i) * weight i
      = weigh (fun s => mean (fun i => (a i : EReal)) s + mean (fun i => (b i : EReal)) s) + weigh (mean fun i => (c i : EReal))
        + Ideal.ofBits .f32 0x3E99999A#32 * weigh (mean fun i => (d i : EReal)) := by
  obtain ⟨t, ht⟩ := third_word
  obtain ⟨w, hw⟩ := weight_words
  have w0 : Ideal.ofBits .f32 0x3CA3D70A#32 = (w 0 : EReal) := hw 0
  have w1 : Ideal.ofBits .f32 0x3D23D70A#32 = (w 1 : EReal) := hw 1
  have w2 : Ideal.ofBits .f32 0x3DA3D70A#32 = (w 2 : EReal) := hw 2
  have w3 : Ideal.ofBits .f32 0x3E23D70A#32 = (w 3 : EReal) := hw 3
  have hp : ∀ s q, weight (place s q) = ((w s / 4 : ℝ) : EReal) := fun s q => by
    rw [weight_place, hw, four_word, coe_div' _ _ (by norm_num)]
  rw [sum_place]
  unfold weigh
  simp only [hp, mean_coe, ht, w0, w1, w2, w3, ← EReal.coe_mul, ← EReal.coe_add, coe_sum']
  congr 1
  simp only [Fin.sum_univ_four]
  ring

/-! ## The results -/

open Idealize.ShloMosaic.TcCoe in
open Cert.KernelIdeal.Run in
theorem result_eq (m : (ℓ : Loc Cert.KernelIdeal.nD Cert.KernelIdeal.τ Cert.KernelIdeal.sig) → Buf (Elt Ideal) ℓ) (c : Dev Cert.KernelIdeal.nD)
    (h11 : (Cert.Pre_distinct_neighbours.fn (F := Ideal) (A0 m c) (A1 m c) (A2 m c)).1 = fun _ => 1#1)
    (h22 : (Cert.Pre_distinct_neighbours.fn (F := Ideal) (A0 m c) (A1 m c) (A2 m c)).2.1 = fun _ => 1#1)
    (h12 : (Cert.Pre_distinct_neighbours.fn (F := Ideal) (A0 m c) (A1 m c) (A2 m c)).2.2 = fun _ => 1#1) :
    Cert.KernelIdeal.Gen.V5 m (outs m) c (Proc.devRef .tc Cert.KernelIdeal.main_v0) = val_main_v213 (F := Ideal) (A0 m c) (A1 m c) (A2 m c) := by
  funext i
  refine (weights m c i).trans ?_
  rw [Cert.ReferenceIdeal.Cloud.result]
  have key := fun b => cloudLoss_eq (p1 (A0 m c) b) (p2 (A1 m c) b) (fl (A2 m c) b)
    (Cert.Pre_distinct_neighbours.apart11 _ _ _ h11 b) (Cert.Pre_distinct_neighbours.apart22 _ _ _ h22 b)
    (Cert.Pre_distinct_neighbours.apart12 _ _ _ h12 b)
  choose x y z u hx hy hz hu hk using key
  simp only [ref_nearOne, ref_nearTwo, ref_smooth, ref_curved, hx, hy, hz, hu, hk]
  exact weighted x y z u

end Cert.Cloud

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.WordRun
public import proofs.«01_k».proof.Proof.IdealRun
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_distinct_neighbours.facts,
  fun m g _ => (θ_run _ _ _).mono (fun _ h => ⟨fun c => (h.1 c).2, h.2⟩) (Cert.Kernel.Run.run_values m g),
  fun m g _ => (θ_run _ _ _).mono (fun _ h => ⟨fun c => (h.1 c).2, h.2⟩) (Cert.KernelIdeal.Run.run_values m g),
  fun m g _ => (θ_run _ _ _).mono (fun _ h => ⟨fun c => (h.1 c).2, h.2⟩) (Cert.KernelIdeal.Run.run_values m g),
  fun m g _ => (θ_run _ _ _).mono (fun r h => ⟨fun c => (h c).2, sem_eq_zero_of_no_sems (by decide) r.2⟩) (Cert.ReferenceIdeal.Value.run (F := Ideal) m g),
  fun m g _ => (θ_run _ _ _).mono (fun r h => ⟨fun c => (h c).2, sem_eq_zero_of_no_sems (by decide) r.2⟩) (Cert.ReferenceIdeal.Value.run (F := Ideal) m g),
  trivial,
  fun m g m' g' hpre hargs => ⟨fun c => Cert.KernelIdeal.Gen.V5 m (Cert.KernelIdeal.Run.outs m) c (Proc.devRef .tc Cert.KernelIdeal.main_v0),
    (θ_run _ _ _).mono (fun _ h => h.1) (Cert.KernelIdeal.Run.run_values m g),
    (θ_run _ _ _).mono (fun r h c => ⟨by
        have key := Cert.Cloud.result_eq m c (hpre c).1 (hpre c).2.1 (hpre c).2.2
        unfold Cert.KernelIdeal.Run.A0 Cert.KernelIdeal.Run.A1 Cert.KernelIdeal.Run.A2 at key
        rw [← (hargs c).1, ← (hargs c).2.1, ← (hargs c).2.2] at key
        exact ((h c).1.trans (Cert.ReferenceIdeal.Read.val_main_v213_eq (F := Ideal) (StableHlo.launchContents m' c))).trans key.symm, (h c).2⟩)
      (Cert.ReferenceIdeal.Value.run (F := Ideal) m' g')⟩⟩

end Cert.Proof

end
